-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_below_infinity [hPre_steps_below_infinity : Cert.Pre_steps_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_steps_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_below_infinity [hPre_steps_below_infinity : Cert.Pre_steps_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_steps_below_infinity [hKernelIdeal : Cert.KernelIdeal.Facts] [hPre_steps_below_infinity : Cert.Pre_steps_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_steps_below_infinity [hReferenceIdeal : Cert.ReferenceIdeal.Facts] [hPre_steps_below_infinity : Cert.Pre_steps_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_steps_below_infinity [hKernelIdeal : Cert.KernelIdeal.Facts] [hReferenceIdeal : Cert.ReferenceIdeal.Facts] [hPre_steps_below_infinity : Cert.Pre_steps_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_steps_below_infinity : Cert.Pre_steps_below_infinity.Facts),
    quiescent_Kernel (hKernel := hKernel)
    ∧ quiescent_KernelIdeal (hKernelIdeal := hKernelIdeal)
    ∧ quiescent_KernelIdeal_pre_steps_below_infinity (hKernelIdeal := hKernelIdeal) (hPre_steps_below_infinity := hPre_steps_below_infinity)
    ∧ quiescent_ReferenceIdeal (hReferenceIdeal := hReferenceIdeal)
    ∧ quiescent_ReferenceIdeal_pre_steps_below_infinity (hReferenceIdeal := hReferenceIdeal) (hPre_steps_below_infinity := hPre_steps_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_steps_below_infinity (hKernelIdeal := hKernelIdeal) (hReferenceIdeal := hReferenceIdeal) (hPre_steps_below_infinity := hPre_steps_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_steps_below_infinity.lean ====
abbrev S16896x9320 : Shape := ⟨2, ![16896, 9320]⟩
abbrev S256x9320 : Shape := ⟨2, ![256, 9320]⟩
abbrev S2x32x32x64x128 : Shape := ⟨5, ![2, 32, 32, 64, 128]⟩
abbrev S32x3x3072 : Shape := ⟨3, ![32, 3, 3072]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S256x32 : Shape := ⟨2, ![256, 32]⟩
abbrev S1x32 : Shape := ⟨2, ![1, 32]⟩
abbrev S_ : Shape := ⟨0, ![]⟩

class Facts : Prop where
  slices_S256x9320_S256x32_0_5120 : S256x9320.Slices ![0, 5120] S256x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)

variable [Facts]

def fn {F : FTy → Type} [FloatOps F] (main_arg0 : FVec F S16896x9320 .f32) (main_arg1 : FVec F S256x9320 .f32) (main_arg2 : FVec F S2x32x32x64x128 .f32) (main_arg3 : FVec F S2x32x32x64x128 .f32) (main_arg4 : FVec F S32x3x3072 .f32) (main_arg5 : FVec F S4x3072 .f32) (main_arg6 : FVec F S3072 .f32) (main_arg7 : FVec F S32 .f32) (main_arg8 : FVec F S32 .f32) (main_arg9 : FVec F S32 .f32) (main_arg10 : FVec F S2048 .f32) : IVec S256x32 1 :=
  let main_v0 : FVec F S256x32 .f32 := (extractStridedSlice S256x32 ![0, 5120] · slices_S256x9320_S256x32_0_5120) main_arg1
  let main_v1 : FVec F S1x32 .f32 := broadcastInDim S1x32 ![1] bcast_S32_S1x32_1 main_arg7
  let main_v2 : FVec F S256x32 .f32 := broadcastInDim S256x32 ![0, 1] bcast_S1x32_S256x32_0_1 main_v1
  let main_v3 : FVec F S256x32 .f32 := addf main_v0 main_v2
  let main_cst : FVec F S_ .f32 := constant S_ .f32 0x7F800000#32
  let main_v4 : FVec F S256x32 .f32 := broadcastInDim S256x32 ![] bcast_S_S256x32 main_cst
  let main_v5 : IVec S256x32 1 := cmpf .olt main_v3 main_v4
  main_v5
-- ==== Kernel.lean ====
abbrev S16896x9320 : Shape := ⟨2, ![16896, 9320]⟩
abbrev S256x9320 : Shape := ⟨2, ![256, 9320]⟩
abbrev S2x32x32x64x128 : Shape := ⟨5, ![2, 32, 32, 64, 128]⟩
abbrev S32x3x3072 : Shape := ⟨3, ![32, 3, 3072]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S17152x9320 : Shape := ⟨2, ![17152, 9320]⟩
abbrev S17152x5120 : Shape := ⟨2, ![17152, 5120]⟩
abbrev S17152x2048 : Shape := ⟨2, ![17152, 2048]⟩
abbrev S17152x64 : Shape := ⟨2, ![17152, 64]⟩
abbrev S17152x32 : Shape := ⟨2, ![17152, 32]⟩
abbrev S17152x8 : Shape := ⟨2, ![17152, 8]⟩
abbrev S_ : Shape := ⟨0, ![]⟩
abbrev S17152x408 : Shape := ⟨2, ![17152, 408]⟩
abbrev S17152x9728 : Shape := ⟨2, ![17152, 9728]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S4x2048 : Shape := ⟨2, ![4, 2048]⟩
abbrev S4x1024 : Shape := ⟨2, ![4, 1024]⟩
abbrev S1024 : Shape := ⟨1, ![1024]⟩
abbrev S1x1024 : Shape := ⟨2, ![1, 1024]⟩
abbrev S1x128 : Shape := ⟨2, ![1, 128]⟩
abbrev S1 : Shape := ⟨1, ![1]⟩
abbrev S2 : Shape := ⟨1, ![2]⟩
abbrev S32x64 : Shape := ⟨2, ![32, 64]⟩
abbrev S32x3x2048 : Shape := ⟨3, ![32, 3, 2048]⟩
abbrev S32x3x1024 : Shape := ⟨3, ![32, 3, 1024]⟩
abbrev S256x2048 : Shape := ⟨2, ![256, 2048]⟩
abbrev S8x2048 : Shape := ⟨2, ![8, 2048]⟩
abbrev S8x1024 : Shape := ⟨2, ![8, 1024]⟩
abbrev S8x128 : Shape := ⟨2, ![8, 128]⟩
abbrev S1x1x32x64x128 : Shape := ⟨5, ![1, 1, 32, 64, 128]⟩
abbrev S1x3x2048 : Shape := ⟨3, ![1, 3, 2048]⟩
abbrev S1x3x1024 : Shape := ⟨3, ![1, 3, 1024]⟩
abbrev S4x128x512 : Shape := ⟨3, ![4, 128, 512]⟩
abbrev S136x2048 : Shape := ⟨2, ![136, 2048]⟩
abbrev S136x1024 : Shape := ⟨2, ![136, 1024]⟩
abbrev S1x1x1x64x128 : Shape := ⟨5, ![1, 1, 1, 64, 128]⟩
abbrev S64x128 : Shape := ⟨2, ![64, 128]⟩
abbrev S128x128 : Shape := ⟨2, ![128, 128]⟩
abbrev S128x512 : Shape := ⟨2, ![128, 512]⟩
abbrev S1x128x512 : Shape := ⟨3, ![1, 128, 512]⟩
abbrev S3x2048 : Shape := ⟨2, ![3, 2048]⟩
abbrev S3x1024 : Shape := ⟨2, ![3, 1024]⟩
abbrev S120x2048 : Shape := ⟨2, ![120, 2048]⟩
abbrev S120x1024 : Shape := ⟨2, ![120, 1024]⟩
abbrev S128x1024 : Shape := ⟨2, ![128, 1024]⟩
abbrev S120x128 : Shape := ⟨2, ![120, 128]⟩
abbrev S768x128 : Shape := ⟨2, ![768, 128]⟩
abbrev S768x2048 : Shape := ⟨2, ![768, 2048]⟩
abbrev S128x64 : Shape := ⟨2, ![128, 64]⟩
abbrev S1x512 : Shape := ⟨2, ![1, 512]⟩

abbrev nBuf : Space → Nat
  | .hbm => 82
  | .vmem => 30
  | .smem => 0
  | _ => 0

abbrev bufTy : (tb : Table) → Fin (tcTables nBuf tb) → BufTy
  | .hbm, ⟨0, _⟩ => ⟨S16896x9320, .f32⟩
  | .hbm, ⟨1, _⟩ => ⟨S256x9320, .f32⟩
  | .hbm, ⟨2, _⟩ => ⟨S2x32x32x64x128, .f32⟩
  | .hbm, ⟨3, _⟩ => ⟨S2x32x32x64x128, .f32⟩
  | .hbm, ⟨4, _⟩ => ⟨S32x3x3072, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S17152x9320, .f32⟩
  | .hbm, ⟨12, _⟩ => ⟨S17152x5120, .f32⟩
  | .hbm, ⟨13, _⟩ => ⟨S17152x2048, .f32⟩
  | .hbm, ⟨14, _⟩ => ⟨S17152x2048, .f32⟩
  | .hbm, ⟨15, _⟩ => ⟨S17152x64, .f32⟩
  | .hbm, ⟨16, _⟩ => ⟨S17152x32, .f32⟩
  | .hbm, ⟨17, _⟩ => ⟨S17152x8, .f32⟩
  | .hbm, ⟨18, _⟩ => ⟨S_, .f32⟩
  | .hbm, ⟨19, _⟩ => ⟨S17152x408, .f32⟩
  | .hbm, ⟨20, _⟩ => ⟨S17152x9728, .f32⟩
  | .hbm, ⟨21, _⟩ => ⟨S2048, .i32⟩
  | .hbm, ⟨22, _⟩ => ⟨S_, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S128, .i32⟩
  | .hbm, ⟨41, _⟩ => ⟨S128x1, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S1x2048, .i32⟩
  | .hbm, ⟨46, _⟩ => ⟨S128x2048, .i32⟩
  | .hbm, ⟨47, _⟩ => ⟨S128x2048, .i32⟩
  | .hbm, ⟨48, _⟩ => ⟨S128x2048, .i1⟩
  | .hbm, ⟨49, _⟩ => ⟨S128x2048, .bf16⟩
  | .hbm, ⟨50, _⟩ => ⟨S4x2048, .f32⟩
  | .hbm, ⟨51, _⟩ => ⟨S2048, .f32⟩
  | .hbm, ⟨52, _⟩ => ⟨S1x2048, .f32⟩
  | .hbm, ⟨53, _⟩ => ⟨S4x1024, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1x128, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1x128, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S1x128, .f32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S1x128, .f32⟩
  | .hbm, ⟨74, _⟩ => ⟨S32x64, .f32⟩
  | .hbm, ⟨75, _⟩ => ⟨S2048, .f32⟩
  | .hbm, ⟨76, _⟩ => ⟨S1x2048, .f32⟩
  | .hbm, ⟨77, _⟩ => ⟨S1x2048, .f32⟩
  | .hbm, ⟨78, _⟩ => ⟨S32x3x2048, .f32⟩
  | .hbm, ⟨79, _⟩ => ⟨S32x3x1024, .f32⟩
  | .hbm, ⟨80, _⟩ => ⟨S256x2048, .f32⟩
  | .hbm, ⟨81, _⟩ => ⟨S2x32x32x64x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x1024, .f32⟩
  | .local _ .vmem, ⟨5, _⟩ => ⟨S8x1024, .f32⟩
  | .local _ .vmem, ⟨6, _⟩ => ⟨S8x128, .f32⟩
  | .local _ .vmem, ⟨7, _⟩ => ⟨S8x128, .f32⟩
  | .local _ .vmem, ⟨8, _⟩ => ⟨S1x1x32x64x128, .f32⟩
  | .local _ .vmem, ⟨9, _⟩ => ⟨S1x1x32x64x128, .f32⟩
  | .local _ .vmem, ⟨10, _⟩ => ⟨S1x3x2048, .f32⟩
  | .local _ .vmem, ⟨11, _⟩ => ⟨S1x3x2048, .f32⟩
  | .local _ .vmem, ⟨12, _⟩ => ⟨S1x3x1024, .f32⟩
  | .local _ .vmem, ⟨13, _⟩ => ⟨S1x3x1024, .f32⟩
  | .local _ .vmem, ⟨14, _⟩ => ⟨S4x2048, .f32⟩
  | .local _ .vmem, ⟨15, _⟩ => ⟨S1x2048, .f32⟩
  | .local _ .vmem, ⟨16, _⟩ => ⟨S4x1024, .f32⟩
  | .local _ .vmem, ⟨17, _⟩ => ⟨S1x1024, .f32⟩
  | .local _ .vmem, ⟨18, _⟩ => ⟨S1x128, .f32⟩
  | .local _ .vmem, ⟨19, _⟩ => ⟨S1x128, .f32⟩
  | .local _ .vmem, ⟨20, _⟩ => ⟨S1x2048, .f32⟩
  | .local _ .vmem, ⟨21, _⟩ => ⟨S1x2048, .f32⟩
  | .local _ .vmem, ⟨22, _⟩ => ⟨S128x2048, .bf16⟩
  | .local _ .vmem, ⟨23, _⟩ => ⟨S8x2048, .f32⟩
  | .local _ .vmem, ⟨24, _⟩ => ⟨S8x2048, .f32⟩
  | .local _ .vmem, ⟨25, _⟩ => ⟨S1x1x32x64x128, .f32⟩
  | .local _ .vmem, ⟨26, _⟩ => ⟨S1x1x32x64x128, .f32⟩
  | .local _ .vmem, ⟨27, _⟩ => ⟨S4x128x512, .f32⟩
  | .local _ .vmem, ⟨28, _⟩ => ⟨S136x2048, .f32⟩
  | .local _ .vmem, ⟨29, _⟩ => ⟨S136x1024, .f32⟩
  | _, _ => ⟨S16896x9320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_1 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_c_3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_c_5 : Ref sig .tc := ⟨.hbm, 68, rfl⟩
abbrev main_v34 : Ref sig .tc := ⟨.hbm, 69, rfl⟩
abbrev main_c_6 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44_0 : Ref sig .tc := ⟨.hbm, 80, rfl⟩
abbrev main_v44_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_188 : BitVec 32 := 0#32
  let v755 : BitVec 1 := Scalar.cmpi .eq arg1 c0_i32_188
  let v756 : BitVec 32 := Scalar.extui v755
  let c0_i32_189 : BitVec 32 := 0#32
  let v757 : BitVec 1 := Scalar.cmpi .ne v756 c0_i32_189
  v757

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2112_i32 : BitVec 32 := 2112#32
  let v1 : BitVec 32 := Scalar.addi c2112_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2112_i32 : BitVec 32 := 2112#32
  let v1 : BitVec 32 := Scalar.addi c2112_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2112_i32 : BitVec 32 := 2112#32
  let v1 : BitVec 32 := Scalar.addi c2112_i32 v0
  let v2 : BitVec 32 := Scalar.addi v1 arg1
  let c4_i32 : BitVec 32 := 4#32
  let c0_i32 : BitVec 32 := 0#32
  ![v2.toNat, c4_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2112_i32 : BitVec 32 := 2112#32
  let v1 : BitVec 32 := Scalar.addi c2112_i32 v0
  let v2 : BitVec 32 := Scalar.addi v1 arg1
  let c72_i32 : BitVec 32 := 72#32
  let c0_i32 : BitVec 32 := 0#32
  ![v2.toNat, c72_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S8x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x32x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S16896x9320 : Shape := ⟨2, ![16896, 9320]⟩
abbrev S256x9320 : Shape := ⟨2, ![256, 9320]⟩
abbrev S2x32x32x64x128 : Shape := ⟨5, ![2, 32, 32, 64, 128]⟩
abbrev S32x3x3072 : Shape := ⟨3, ![32, 3, 3072]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x8x9320 : Shape := ⟨3, ![32, 8, 9320]⟩
abbrev S32x8x2048 : Shape := ⟨3, ![32, 8, 2048]⟩
abbrev S32x8x3072 : Shape := ⟨3, ![32, 8, 3072]⟩
abbrev S32x8x32 : Shape := ⟨3, ![32, 8, 32]⟩
abbrev S32x11x3072 : Shape := ⟨3, ![32, 11, 3072]⟩
abbrev S1x3072 : Shape := ⟨2, ![1, 3072]⟩
abbrev S1x1x3072 : Shape := ⟨3, ![1, 1, 3072]⟩
abbrev S_ : Shape := ⟨0, ![]⟩
abbrev S32x8x512 : Shape := ⟨3, ![32, 8, 512]⟩
abbrev S1x1x32 : Shape := ⟨3, ![1, 1, 32]⟩
abbrev S32x8x4x8x64 : Shape := ⟨5, ![32, 8, 4, 8, 64]⟩
abbrev S32x8x4x8 : Shape := ⟨4, ![32, 8, 4, 8]⟩
abbrev S32x8x4x128 : Shape := ⟨4, ![32, 8, 4, 128]⟩
abbrev S1x32x32x64x128 : Shape := ⟨5, ![1, 32, 32, 64, 128]⟩
abbrev S32x32x64x128 : Shape := ⟨4, ![32, 32, 64, 128]⟩
abbrev S32x4x8x64x128 : Shape := ⟨5, ![32, 4, 8, 64, 128]⟩
abbrev S4x8 : Shape := ⟨2, ![4, 8]⟩
abbrev S8x8 : Shape := ⟨2, ![8, 8]⟩
abbrev S1x1x4x8 : Shape := ⟨4, ![1, 1, 4, 8]⟩
abbrev S32x8x1x4x8 : Shape := ⟨5, ![32, 8, 1, 4, 8]⟩
abbrev S32x1x8x4x8 : Shape := ⟨5, ![32, 1, 8, 4, 8]⟩
abbrev S32x8x8x4x8 : Shape := ⟨5, ![32, 8, 8, 4, 8]⟩
abbrev S1x8x8x1x1 : Shape := ⟨5, ![1, 8, 8, 1, 1]⟩
abbrev S32x4x8x8 : Shape := ⟨4, ![32, 4, 8, 8]⟩
abbrev S32x8x8x4 : Shape := ⟨4, ![32, 8, 8, 4]⟩
abbrev S32x8x4x8x1 : Shape := ⟨5, ![32, 8, 4, 8, 1]⟩
abbrev S32x8x8x4x1 : Shape := ⟨5, ![32, 8, 8, 4, 1]⟩
abbrev S32x4x8x64x8 : Shape := ⟨5, ![32, 4, 8, 64, 8]⟩
abbrev S32x1x4x8 : Shape := ⟨4, ![32, 1, 4, 8]⟩
abbrev S32x4x8 : Shape := ⟨3, ![32, 4, 8]⟩
abbrev S32x4x8x1x1 : Shape := ⟨5, ![32, 4, 8, 1, 1]⟩
abbrev S32x8x32x64 : Shape := ⟨4, ![32, 8, 32, 64]⟩
abbrev S32x1 : Shape := ⟨2, ![32, 1]⟩
abbrev S1x1x32x1 : Shape := ⟨4, ![1, 1, 32, 1]⟩
abbrev S32x8x4x512 : Shape := ⟨4, ![32, 8, 4, 512]⟩
abbrev S32x8x4 : Shape := ⟨3, ![32, 8, 4]⟩
abbrev S32x8x4x1 : Shape := ⟨4, ![32, 8, 4, 1]⟩
abbrev S1x1x2048 : Shape := ⟨3, ![1, 1, 2048]⟩
abbrev S256x2048 : Shape := ⟨2, ![256, 2048]⟩

abbrev nBuf : Space → Nat
  | .hbm => 187
  | .vmem => 0
  | .smem => 0
  | _ => 0

abbrev hbmTy0_0 (i : Nat) : BufTy := match i % 128 with
  | 0 => ⟨S16896x9320, .f32⟩
  | 1 => ⟨S256x9320, .f32⟩
  | 2 => ⟨S2x32x32x64x128, .f32⟩
  | 3 => ⟨S2x32x32x64x128, .f32⟩
  | 4 => ⟨S32x3x3072, .f32⟩
  | 5 => ⟨S4x3072, .f32⟩
  | 6 => ⟨S3072, .f32⟩
  | 7 => ⟨S32, .f32⟩
  | 8 => ⟨S32, .f32⟩
  | 9 => ⟨S32, .f32⟩
  | 10 => ⟨S2048, .f32⟩
  | 11 => ⟨S32x8x9320, .f32⟩
  | 12 => ⟨S32x8x2048, .f32⟩
  | 13 => ⟨S32x8x3072, .f32⟩
  | 14 => ⟨S32x8x32, .f32⟩
  | 15 => ⟨S32x11x3072, .f32⟩
  | 16 => ⟨S32x8x3072, .f32⟩
  | 17 => ⟨S1x3072, .f32⟩
  | 18 => ⟨S3072, .f32⟩
  | 19 => ⟨S1x1x3072, .f32⟩
  | 20 => ⟨S32x8x3072, .f32⟩
  | 21 => ⟨S32x8x3072, .f32⟩
  | 22 => ⟨S1x1x3072, .f32⟩
  | 23 => ⟨S32x8x3072, .f32⟩
  | 24 => ⟨S32x8x3072, .f32⟩
  | 25 => ⟨S32x8x3072, .f32⟩
  | 26 => ⟨S1x3072, .f32⟩
  | 27 => ⟨S3072, .f32⟩
  | 28 => ⟨S1x1x3072, .f32⟩
  | 29 => ⟨S32x8x3072, .f32⟩
  | 30 => ⟨S32x8x3072, .f32⟩
  | 31 => ⟨S32x8x3072, .f32⟩
  | 32 => ⟨S32x8x3072, .f32⟩
  | 33 => ⟨S1x3072, .f32⟩
  | 34 => ⟨S3072, .f32⟩
  | 35 => ⟨S1x1x3072, .f32⟩
  | 36 => ⟨S32x8x3072, .f32⟩
  | 37 => ⟨S32x8x3072, .f32⟩
  | 38 => ⟨S32x8x3072, .f32⟩
  | 39 => ⟨S32x8x3072, .f32⟩
  | 40 => ⟨S1x3072, .f32⟩
  | 41 => ⟨S3072, .f32⟩
  | 42 => ⟨S1x1x3072, .f32⟩
  | 43 => ⟨S32x8x3072, .f32⟩
  | 44 => ⟨S32x8x3072, .f32⟩
  | 45 => ⟨S32x8x3072, .f32⟩
  | 46 => ⟨S32x8x3072, .f32⟩
  | 47 => ⟨S32x8x3072, .f32⟩
  | 48 => ⟨S_, .f32⟩
  | 49 => ⟨S32x8x3072, .f32⟩
  | 50 => ⟨S32x8x3072, .f32⟩
  | 51 => ⟨S_, .f32⟩
  | 52 => ⟨S32x8x3072, .f32⟩
  | 53 => ⟨S32x8x3072, .f32⟩
  | 54 => ⟨S32x8x3072, .f32⟩
  | 55 => ⟨S32x8x2048, .f32⟩
  | 56 => ⟨S32x8x512, .f32⟩
  | 57 => ⟨S32x8x512, .f32⟩
  | 58 => ⟨S1x1x32, .f32⟩
  | 59 => ⟨S32x8x32, .f32⟩
  | 60 => ⟨S32x8x32, .f32⟩
  | 61 => ⟨S_, .f32⟩
  | 62 => ⟨S32x8x32, .f32⟩
  | 63 => ⟨S32x8x32, .f32⟩
  | 64 => ⟨S32x8x32, .f32⟩
  | 65 => ⟨S32x8x32, .f32⟩
  | 66 => ⟨S32x8x32, .i1⟩
  | 67 => ⟨S32x8x32, .f32⟩
  | 68 => ⟨S32x8x32, .f32⟩
  | 69 => ⟨S32x8x32, .f32⟩
  | 70 => ⟨S32x8x32, .f32⟩
  | 71 => ⟨S32x8x32, .f32⟩
  | 72 => ⟨S32x8x32, .f32⟩
  | 73 => ⟨S32x8x32, .f32⟩
  | 74 => ⟨S32x8x32, .f32⟩
  | 75 => ⟨S32, .f32⟩
  | 76 => ⟨S32, .f32⟩
  | 77 => ⟨S32x8x4x8x64, .f32⟩
  | 78 => ⟨S32x8x4x8, .f32⟩
  | 79 => ⟨S32x8x4x128, .f32⟩
  | 80 => ⟨S32x8x4x128, .f32⟩
  | 81 => ⟨S1x32x32x64x128, .f32⟩
  | 82 => ⟨S32x32x64x128, .f32⟩
  | 83 => ⟨S32x4x8x64x128, .f32⟩
  | 84 => ⟨S4x8, .f32⟩
  | 85 => ⟨S_, .i1⟩
  | 86 => ⟨S8x8, .i1⟩
  | 87 => ⟨S8x8, .i32⟩
  | 88 => ⟨S_, .i32⟩
  | 89 => ⟨S8x8, .i32⟩
  | 90 => ⟨S8x8, .i32⟩
  | 91 => ⟨S8x8, .i32⟩
  | 92 => ⟨S8x8, .i1⟩
  | 93 => ⟨S_, .i1⟩
  | 94 => ⟨S8x8, .i1⟩
  | 95 => ⟨S8x8, .i1⟩
  | 96 => ⟨S1x1x4x8, .f32⟩
  | 97 => ⟨S32x8x4x8, .f32⟩
  | 98 => ⟨S32x8x4x8, .f32⟩
  | 99 => ⟨S_, .f32⟩
  | 100 => ⟨S_, .f32⟩
  | 101 => ⟨S32x8x4x8, .f32⟩
  | 102 => ⟨S32x8x1x4x8, .f32⟩
  | 103 => ⟨S32x1x8x4x8, .f32⟩
  | 104 => ⟨S32x8x8x4x8, .f32⟩
  | 105 => ⟨S32x8x8x4x8, .f32⟩
  | 106 => ⟨S32x8x8x4x8, .f32⟩
  | 107 => ⟨S1x8x8x1x1, .i1⟩
  | 108 => ⟨S_, .f32⟩
  | 109 => ⟨S_, .f32⟩
  | 110 => ⟨S32x8x8x4x8, .i1⟩
  | 111 => ⟨S32x8x8x4x8, .f32⟩
  | 112 => ⟨S32x8x8x4x8, .f32⟩
  | 113 => ⟨S32x8x8x4x8, .f32⟩
  | 114 => ⟨S32x4x8x8, .f32⟩
  | 115 => ⟨S32x8x8x4, .f32⟩
  | 116 => ⟨S32x8x4x8x1, .f32⟩
  | 117 => ⟨S32x8x4x8x64, .f32⟩
  | 118 => ⟨S32x8x4x8x64, .f32⟩
  | 119 => ⟨S32x8x8x4x1, .f32⟩
  | 120 => ⟨S32x8x8x4x8, .f32⟩
  | 121 => ⟨S32x8x8x4x8, .f32⟩
  | 122 => ⟨S32x4x8x64x8, .f32⟩
  | 123 => ⟨S32x8x4x8x64, .f32⟩
  | 124 => ⟨S32x4x8x64x8, .f32⟩
  | 125 => ⟨S32x8x4x8x64, .f32⟩
  | 126 => ⟨S32x8x4x8, .f32⟩
  | 127 => ⟨S32x8x4x8x1, .f32⟩
  | _ => ⟨S16896x9320, .f32⟩

abbrev hbmTy0_1 (i : Nat) : BufTy := match i % 128 with
  | 0 => ⟨S32x8x4x8x64, .f32⟩
  | 1 => ⟨S32x8x4x8x64, .f32⟩
  | 2 => ⟨S32x8x4x8x64, .f32⟩
  | 3 => ⟨S32x1x4x8, .f32⟩
  | 4 => ⟨S32x4x8, .f32⟩
  | 5 => ⟨S32x1x4x8, .f32⟩
  | 6 => ⟨S32x8x4x8, .f32⟩
  | 7 => ⟨S32x8x4x8, .f32⟩
  | 8 => ⟨S32x8x4x8, .f32⟩
  | 9 => ⟨S32x4x8, .f32⟩
  | 10 => ⟨S32x4x8x1x1, .f32⟩
  | 11 => ⟨S32x4x8x64x128, .f32⟩
  | 12 => ⟨S32x4x8x64x128, .f32⟩
  | 13 => ⟨S32x8x4x8x1, .f32⟩
  | 14 => ⟨S32x8x4x8x64, .f32⟩
  | 15 => ⟨S32x8x4x8x64, .f32⟩
  | 16 => ⟨S32x4x8x64x128, .f32⟩
  | 17 => ⟨S32x4x8x64x128, .f32⟩
  | 18 => ⟨S32x32x64x128, .f32⟩
  | 19 => ⟨S32x8x32x64, .f32⟩
  | 20 => ⟨S32x8x32x64, .f32⟩
  | 21 => ⟨S32x1, .f32⟩
  | 22 => ⟨S1x1x32x1, .f32⟩
  | 23 => ⟨S32x8x32x64, .f32⟩
  | 24 => ⟨S32x8x32x64, .f32⟩
  | 25 => ⟨S32x8x32x64, .f32⟩
  | 26 => ⟨S32x8x2048, .f32⟩
  | 27 => ⟨S32x8x2048, .f32⟩
  | 28 => ⟨S32x8x2048, .f32⟩
  | 29 => ⟨S_, .f32⟩
  | 30 => ⟨S32x8x2048, .f32⟩
  | 31 => ⟨S32x8x2048, .f32⟩
  | 32 => ⟨S_, .f32⟩
  | 33 => ⟨S32x8x2048, .f32⟩
  | 34 => ⟨S32x8x2048, .f32⟩
  | 35 => ⟨S32x8x2048, .f32⟩
  | 36 => ⟨S32x8x2048, .f32⟩
  | 37 => ⟨S32x8x4x512, .f32⟩
  | 38 => ⟨S32x8x4x512, .f32⟩
  | 39 => ⟨S_, .f32⟩
  | 40 => ⟨S32x8x4, .f32⟩
  | 41 => ⟨S32x8x4x1, .f32⟩
  | 42 => ⟨S_, .f32⟩
  | 43 => ⟨S32x8x4x1, .f32⟩
  | 44 => ⟨S32x8x4x1, .f32⟩
  | 45 => ⟨S_, .f32⟩
  | 46 => ⟨S32x8x4x1, .f32⟩
  | 47 => ⟨S32x8x4x1, .f32⟩
  | 48 => ⟨S32x8x4x1, .f32⟩
  | 49 => ⟨S32x8x4x512, .f32⟩
  | 50 => ⟨S32x8x4x512, .f32⟩
  | 51 => ⟨S32x8x2048, .f32⟩
  | 52 => ⟨S1x1x2048, .f32⟩
  | 53 => ⟨S32x8x2048, .f32⟩
  | 54 => ⟨S32x8x2048, .f32⟩
  | 55 => ⟨S256x2048, .f32⟩
  | 56 => ⟨S1x32x32x64x128, .f32⟩
  | 57 => ⟨S1x32x32x64x128, .f32⟩
  | 58 => ⟨S2x32x32x64x128, .f32⟩
  | _ => ⟨S16896x9320, .f32⟩

abbrev hbmTy (i : Nat) : BufTy := match i / 128 with
  | 0 => hbmTy0_0 i
  | 1 => hbmTy0_1 i
  | _ => ⟨S16896x9320, .f32⟩

abbrev bufTy : (tb : Table) → Fin (tcTables nBuf tb) → BufTy
  | .hbm, ⟨i, _⟩ => hbmTy i
  | _, _ => ⟨S16896x9320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c : Ref sig .tc := ⟨.hbm, 85, rfl⟩
abbrev main_v53 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_c_0 : Ref sig .tc := ⟨.hbm, 93, rfl⟩
abbrev main_call2_v5 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call3_call0_cst : Ref sig .tc := ⟨.hbm, 99, rfl⟩
abbrev main_call3_call0_v0 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_call5_v0 : Ref sig .tc := ⟨.hbm, 155, rfl⟩
abbrev main_call5_v1 : Ref sig .tc := ⟨.hbm, 156, rfl⟩
abbrev main_call5_cst : Ref sig .tc := ⟨.hbm, 157, rfl⟩
abbrev main_call5_v2 : Ref sig .tc := ⟨.hbm, 158, rfl⟩
abbrev main_call5_v3 : Ref sig .tc := ⟨.hbm, 159, rfl⟩
abbrev main_call5_cst_0 : Ref sig .tc := ⟨.hbm, 160, rfl⟩
abbrev main_call5_v4 : Ref sig .tc := ⟨.hbm, 161, rfl⟩
abbrev main_call5_v5 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_0 : Ref sig .tc := ⟨.hbm, 167, rfl⟩
abbrev main_v112 : Ref sig .tc := ⟨.hbm, 168, rfl⟩
abbrev main_v113 : Ref sig .tc := ⟨.hbm, 169, rfl⟩
abbrev main_cst_1 : Ref sig .tc := ⟨.hbm, 170, rfl⟩
abbrev main_v114 : Ref sig .tc := ⟨.hbm, 171, rfl⟩
abbrev main_v115 : Ref sig .tc := ⟨.hbm, 172, rfl⟩
abbrev main_cst_2 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩

abbrev nD : Nat := 1
abbrev τ : Topo := Topo.v7x

variable {F : FTy → Type} [FloatOps F]
-- ==== Kernel2.lean ====
abbrev S17152x1024 : Shape := ⟨2, ![17152, 1024]⟩
abbrev S1024 : Shape := ⟨1, ![1024]⟩
abbrev S1024x9320 : Shape := ⟨2, ![1024, 9320]⟩
abbrev S1024x5120 : Shape := ⟨2, ![1024, 5120]⟩
abbrev S1024x2048 : Shape := ⟨2, ![1024, 2048]⟩
abbrev S1024x64 : Shape := ⟨2, ![1024, 64]⟩
abbrev S1024x32 : Shape := ⟨2, ![1024, 32]⟩
abbrev S1024x8 : Shape := ⟨2, ![1024, 8]⟩
abbrev S_ : Shape := ⟨0, ![]⟩
abbrev S1024x408 : Shape := ⟨2, ![1024, 408]⟩
abbrev S1024x9728 : Shape := ⟨2, ![1024, 9728]⟩
abbrev S1024x19x512 : Shape := ⟨3, ![1024, 19, 512]⟩
abbrev S19x1024x512 : Shape := ⟨3, ![19, 1024, 512]⟩
abbrev S1x1024 : Shape := ⟨2, ![1, 1024]⟩
abbrev S17152x9728 : Shape := ⟨2, ![17152, 9728]⟩
abbrev S1072x1024 : Shape := ⟨2, ![1072, 1024]⟩
abbrev S1072x512 : Shape := ⟨2, ![1072, 512]⟩
abbrev S1072 : Shape := ⟨1, ![1072]⟩
abbrev S1072x1 : Shape := ⟨2, ![1072, 1]⟩
abbrev S1x1024x512 : Shape := ⟨3, ![1, 1024, 512]⟩
abbrev S1024x512 : Shape := ⟨2, ![1024, 512]⟩

abbrev nBuf : Space → Nat
  | .hbm => 17
  | .vmem => 7
  | .smem => 0
  | _ => 0

abbrev bufTy : (tb : Table) → Fin (tcTables nBuf tb) → BufTy
  | .hbm, ⟨0, _⟩ => ⟨S17152x1024, .f32⟩
  | .hbm, ⟨1, _⟩ => ⟨S1024, .f32⟩
  | .hbm, ⟨2, _⟩ => ⟨S1024x9320, .f32⟩
  | .hbm, ⟨3, _⟩ => ⟨S1024x5120, .f32⟩
  | .hbm, ⟨4, _⟩ => ⟨S1024x2048, .f32⟩
  | .hbm, ⟨5, _⟩ => ⟨S1024x2048, .f32⟩
  | .hbm, ⟨6, _⟩ => ⟨S1024x64, .f32⟩
  | .hbm, ⟨7, _⟩ => ⟨S1024x32, .f32⟩
  | .hbm, ⟨8, _⟩ => ⟨S1024x8, .f32⟩
  | .hbm, ⟨9, _⟩ => ⟨S_, .f32⟩
  | .hbm, ⟨10, _⟩ => ⟨S1024x408, .f32⟩
  | .hbm, ⟨11, _⟩ => ⟨S1024x9728, .f32⟩
  | .hbm, ⟨12, _⟩ => ⟨S1024x9728, .bf16⟩
  | .hbm, ⟨13, _⟩ => ⟨S1024x19x512, .bf16⟩
  | .hbm, ⟨14, _⟩ => ⟨S19x1024x512, .bf16⟩
  | .hbm, ⟨15, _⟩ => ⟨S1x1024, .f32⟩
  | .hbm, ⟨16, _⟩ => ⟨S17152x9728, .f32⟩
  | .local _ .vmem, ⟨0, _⟩ => ⟨S1072x1024, .f32⟩
  | .local _ .vmem, ⟨1, _⟩ => ⟨S1072x1024, .f32⟩
  | .local _ .vmem, ⟨2, _⟩ => ⟨S1x1024, .f32⟩
  | .local _ .vmem, ⟨3, _⟩ => ⟨S19x1024x512, .bf16⟩
  | .local _ .vmem, ⟨4, _⟩ => ⟨S1072x512, .f32⟩
  | .local _ .vmem, ⟨5, _⟩ => ⟨S1072x512, .f32⟩
  | .local _ .vmem, ⟨6, _⟩ => ⟨S1072x1024, .bf16⟩
  | _, _ => ⟨S17152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 19], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1072x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S19x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1072x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S17152x1024 : Shape := ⟨2, ![17152, 1024]⟩
abbrev S1024 : Shape := ⟨1, ![1024]⟩
abbrev S1024x9320 : Shape := ⟨2, ![1024, 9320]⟩
abbrev S_ : Shape := ⟨0, ![]⟩
abbrev S17152 : Shape := ⟨1, ![17152]⟩
abbrev S17152x1 : Shape := ⟨2, ![17152, 1]⟩
abbrev S1x1024 : Shape := ⟨2, ![1, 1024]⟩
abbrev S17152x9320 : Shape := ⟨2, ![17152, 9320]⟩
abbrev S17152x5120 : Shape := ⟨2, ![17152, 5120]⟩
abbrev S17152x2048 : Shape := ⟨2, ![17152, 2048]⟩
abbrev S17152x64 : Shape := ⟨2, ![17152, 64]⟩
abbrev S17152x32 : Shape := ⟨2, ![17152, 32]⟩
abbrev S17152x8 : Shape := ⟨2, ![17152, 8]⟩
abbrev S17152x408 : Shape := ⟨2, ![17152, 408]⟩
abbrev S17152x9728 : Shape := ⟨2, ![17152, 9728]⟩

abbrev nBuf : Space → Nat
  | .hbm => 29
  | .vmem => 0
  | .smem => 0
  | _ => 0

abbrev bufTy : (tb : Table) → Fin (tcTables nBuf tb) → BufTy
  | .hbm, ⟨0, _⟩ => ⟨S17152x1024, .f32⟩
  | .hbm, ⟨1, _⟩ => ⟨S1024, .f32⟩
  | .hbm, ⟨2, _⟩ => ⟨S1024x9320, .f32⟩
  | .hbm, ⟨3, _⟩ => ⟨S17152x1024, .f32⟩
  | .hbm, ⟨4, _⟩ => ⟨S_, .f32⟩
  | .hbm, ⟨5, _⟩ => ⟨S17152, .f32⟩
  | .hbm, ⟨6, _⟩ => ⟨S17152x1, .f32⟩
  | .hbm, ⟨7, _⟩ => ⟨S_, .f32⟩
  | .hbm, ⟨8, _⟩ => ⟨S17152x1, .f32⟩
  | .hbm, ⟨9, _⟩ => ⟨S17152x1, .f32⟩
  | .hbm, ⟨10, _⟩ => ⟨S_, .f32⟩
  | .hbm, ⟨11, _⟩ => ⟨S17152x1, .f32⟩
  | .hbm, ⟨12, _⟩ => ⟨S17152x1, .f32⟩
  | .hbm, ⟨13, _⟩ => ⟨S17152x1, .f32⟩
  | .hbm, ⟨14, _⟩ => ⟨S17152x1024, .f32⟩
  | .hbm, ⟨15, _⟩ => ⟨S17152x1024, .f32⟩
  | .hbm, ⟨16, _⟩ => ⟨S1x1024, .f32⟩
  | .hbm, ⟨17, _⟩ => ⟨S17152x1024, .f32⟩
  | .hbm, ⟨18, _⟩ => ⟨S17152x1024, .f32⟩
  | .hbm, ⟨19, _⟩ => ⟨S17152x9320, .f32⟩
  | .hbm, ⟨20, _⟩ => ⟨S17152x5120, .f32⟩
  | .hbm, ⟨21, _⟩ => ⟨S17152x2048, .f32⟩
  | .hbm, ⟨22, _⟩ => ⟨S17152x2048, .f32⟩
  | .hbm, ⟨23, _⟩ => ⟨S17152x64, .f32⟩
  | .hbm, ⟨24, _⟩ => ⟨S17152x32, .f32⟩
  | .hbm, ⟨25, _⟩ => ⟨S17152x8, .f32⟩
  | .hbm, ⟨26, _⟩ => ⟨S_, .f32⟩
  | .hbm, ⟨27, _⟩ => ⟨S17152x408, .f32⟩
  | .hbm, ⟨28, _⟩ => ⟨S17152x9728, .f32⟩
  | _, _ => ⟨S17152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel3.lean ====
abbrev S17152x1024 : Shape := ⟨2, ![17152, 1024]⟩
abbrev S16896x2048 : Shape := ⟨2, ![16896, 2048]⟩
abbrev S256x2048 : Shape := ⟨2, ![256, 2048]⟩
abbrev S16896x1024 : Shape := ⟨2, ![16896, 1024]⟩
abbrev S256x1024 : Shape := ⟨2, ![256, 1024]⟩
abbrev S17152x9320 : Shape := ⟨2, ![17152, 9320]⟩
abbrev S2048x1024 : Shape := ⟨2, ![2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S17152x5120 : Shape := ⟨2, ![17152, 5120]⟩
abbrev S17152x2048 : Shape := ⟨2, ![17152, 2048]⟩
abbrev S17152x64 : Shape := ⟨2, ![17152, 64]⟩
abbrev S17152x32 : Shape := ⟨2, ![17152, 32]⟩
abbrev S17152x8 : Shape := ⟨2, ![17152, 8]⟩
abbrev S_ : Shape := ⟨0, ![]⟩
abbrev S17152x408 : Shape := ⟨2, ![17152, 408]⟩
abbrev S17152x9728 : Shape := ⟨2, ![17152, 9728]⟩
abbrev S1x1024 : Shape := ⟨2, ![1, 1024]⟩
abbrev S256 : Shape := ⟨1, ![256]⟩
abbrev S256x1 : Shape := ⟨2, ![256, 1]⟩
abbrev S256x4096 : Shape := ⟨2, ![256, 4096]⟩

abbrev nBuf : Space → Nat
  | .hbm => 32
  | .vmem => 23
  | .smem => 0
  | _ => 0

abbrev bufTy : (tb : Table) → Fin (tcTables nBuf tb) → BufTy
  | .hbm, ⟨0, _⟩ => ⟨S17152x1024, .f32⟩
  | .hbm, ⟨1, _⟩ => ⟨S16896x2048, .f32⟩
  | .hbm, ⟨2, _⟩ => ⟨S256x2048, .f32⟩
  | .hbm, ⟨3, _⟩ => ⟨S16896x1024, .f32⟩
  | .hbm, ⟨4, _⟩ => ⟨S256x1024, .f32⟩
  | .hbm, ⟨5, _⟩ => ⟨S17152x9320, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S16896x2048, .bf16⟩
  | .hbm, ⟨14, _⟩ => ⟨S16896x1024, .bf16⟩
  | .hbm, ⟨15, _⟩ => ⟨S17152x5120, .f32⟩
  | .hbm, ⟨16, _⟩ => ⟨S17152x2048, .f32⟩
  | .hbm, ⟨17, _⟩ => ⟨S17152x2048, .f32⟩
  | .hbm, ⟨18, _⟩ => ⟨S17152x64, .f32⟩
  | .hbm, ⟨19, _⟩ => ⟨S17152x32, .f32⟩
  | .hbm, ⟨20, _⟩ => ⟨S17152x8, .f32⟩
  | .hbm, ⟨21, _⟩ => ⟨S_, .f32⟩
  | .hbm, ⟨22, _⟩ => ⟨S17152x408, .f32⟩
  | .hbm, ⟨23, _⟩ => ⟨S17152x9728, .f32⟩
  | .hbm, ⟨24, _⟩ => ⟨S2048x1024, .bf16⟩
  | .hbm, ⟨25, _⟩ => ⟨S1024x1024, .bf16⟩
  | .hbm, ⟨26, _⟩ => ⟨S1024x1024, .bf16⟩
  | .hbm, ⟨27, _⟩ => ⟨S1024x4096, .bf16⟩
  | .hbm, ⟨28, _⟩ => ⟨S4096x1024, .bf16⟩
  | .hbm, ⟨29, _⟩ => ⟨S1x1024, .f32⟩
  | .hbm, ⟨30, _⟩ => ⟨S1x1024, .f32⟩
  | .hbm, ⟨31, _⟩ => ⟨S17152x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | _, _ => ⟨S17152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![67], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c65_i32 : BitVec 32 := 65#32
  let v0 : BitVec 32 := Scalar.minsi arg0 c65_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c65_i32 : BitVec 32 := 65#32
  let v0 : BitVec 32 := Scalar.minsi arg0 c65_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S17152x1024 : Shape := ⟨2, ![17152, 1024]⟩
abbrev S16896x2048 : Shape := ⟨2, ![16896, 2048]⟩
abbrev S256x2048 : Shape := ⟨2, ![256, 2048]⟩
abbrev S16896x1024 : Shape := ⟨2, ![16896, 1024]⟩
abbrev S256x1024 : Shape := ⟨2, ![256, 1024]⟩
abbrev S17152x9320 : Shape := ⟨2, ![17152, 9320]⟩
abbrev S2048x1024 : Shape := ⟨2, ![2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S17152x2048 : Shape := ⟨2, ![17152, 2048]⟩
abbrev S_ : Shape := ⟨0, ![]⟩
abbrev S17152 : Shape := ⟨1, ![17152]⟩
abbrev S17152x1 : Shape := ⟨2, ![17152, 1]⟩
abbrev S1x1024 : Shape := ⟨2, ![1, 1024]⟩
abbrev S17152x4096 : Shape := ⟨2, ![17152, 4096]⟩

abbrev nBuf : Space → Nat
  | .hbm => 79
  | .vmem => 0
  | .smem => 0
  | _ => 0

abbrev bufTy : (tb : Table) → Fin (tcTables nBuf tb) → BufTy
  | .hbm, ⟨0, _⟩ => ⟨S17152x1024, .f32⟩
  | .hbm, ⟨1, _⟩ => ⟨S16896x2048, .f32⟩
  | .hbm, ⟨2, _⟩ => ⟨S256x2048, .f32⟩
  | .hbm, ⟨3, _⟩ => ⟨S16896x1024, .f32⟩
  | .hbm, ⟨4, _⟩ => ⟨S256x1024, .f32⟩
  | .hbm, ⟨5, _⟩ => ⟨S17152x9320, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S17152x2048, .f32⟩
  | .hbm, ⟨14, _⟩ => ⟨S17152x1024, .f32⟩
  | .hbm, ⟨15, _⟩ => ⟨S17152x1024, .f32⟩
  | .hbm, ⟨16, _⟩ => ⟨S17152x1024, .f32⟩
  | .hbm, ⟨17, _⟩ => ⟨S17152x1024, .f32⟩
  | .hbm, ⟨18, _⟩ => ⟨S17152x1024, .f32⟩
  | .hbm, ⟨19, _⟩ => ⟨S_, .f32⟩
  | .hbm, ⟨20, _⟩ => ⟨S17152x1024, .f32⟩
  | .hbm, ⟨21, _⟩ => ⟨S17152x1024, .f32⟩
  | .hbm, ⟨22, _⟩ => ⟨S_, .f32⟩
  | .hbm, ⟨23, _⟩ => ⟨S17152x1024, .f32⟩
  | .hbm, ⟨24, _⟩ => ⟨S17152x1024, .f32⟩
  | .hbm, ⟨25, _⟩ => ⟨S17152x1024, .f32⟩
  | .hbm, ⟨26, _⟩ => ⟨S17152x1024, .f32⟩
  | .hbm, ⟨27, _⟩ => ⟨S17152x1024, .f32⟩
  | .hbm, ⟨28, _⟩ => ⟨S17152x1024, .f32⟩
  | .hbm, ⟨29, _⟩ => ⟨S_, .f32⟩
  | .hbm, ⟨30, _⟩ => ⟨S17152x1024, .f32⟩
  | .hbm, ⟨31, _⟩ => ⟨S17152x1024, .f32⟩
  | .hbm, ⟨32, _⟩ => ⟨S_, .f32⟩
  | .hbm, ⟨33, _⟩ => ⟨S17152x1024, .f32⟩
  | .hbm, ⟨34, _⟩ => ⟨S17152x1024, .f32⟩
  | .hbm, ⟨35, _⟩ => ⟨S17152x1024, .f32⟩
  | .hbm, ⟨36, _⟩ => ⟨S17152x1024, .f32⟩
  | .hbm, ⟨37, _⟩ => ⟨S17152x1024, .f32⟩
  | .hbm, ⟨38, _⟩ => ⟨S17152x1024, .f32⟩
  | .hbm, ⟨39, _⟩ => ⟨S17152x1024, .f32⟩
  | .hbm, ⟨40, _⟩ => ⟨S17152x1024, .f32⟩
  | .hbm, ⟨41, _⟩ => ⟨S_, .f32⟩
  | .hbm, ⟨42, _⟩ => ⟨S17152, .f32⟩
  | .hbm, ⟨43, _⟩ => ⟨S17152x1, .f32⟩
  | .hbm, ⟨44, _⟩ => ⟨S_, .f32⟩
  | .hbm, ⟨45, _⟩ => ⟨S17152x1, .f32⟩
  | .hbm, ⟨46, _⟩ => ⟨S17152x1, .f32⟩
  | .hbm, ⟨47, _⟩ => ⟨S_, .f32⟩
  | .hbm, ⟨48, _⟩ => ⟨S17152x1, .f32⟩
  | .hbm, ⟨49, _⟩ => ⟨S17152x1, .f32⟩
  | .hbm, ⟨50, _⟩ => ⟨S17152x1, .f32⟩
  | .hbm, ⟨51, _⟩ => ⟨S17152x1024, .f32⟩
  | .hbm, ⟨52, _⟩ => ⟨S17152x1024, .f32⟩
  | .hbm, ⟨53, _⟩ => ⟨S1x1024, .f32⟩
  | .hbm, ⟨54, _⟩ => ⟨S17152x1024, .f32⟩
  | .hbm, ⟨55, _⟩ => ⟨S17152x1024, .f32⟩
  | .hbm, ⟨56, _⟩ => ⟨S17152x4096, .f32⟩
  | .hbm, ⟨57, _⟩ => ⟨S_, .f32⟩
  | .hbm, ⟨58, _⟩ => ⟨S17152x4096, .f32⟩
  | .hbm, ⟨59, _⟩ => ⟨S17152x4096, .f32⟩
  | .hbm, ⟨60, _⟩ => ⟨S17152x4096, .f32⟩
  | .hbm, ⟨61, _⟩ => ⟨S17152x1024, .f32⟩
  | .hbm, ⟨62, _⟩ => ⟨S17152x1024, .f32⟩
  | .hbm, ⟨63, _⟩ => ⟨S17152x1024, .f32⟩
  | .hbm, ⟨64, _⟩ => ⟨S_, .f32⟩
  | .hbm, ⟨65, _⟩ => ⟨S17152, .f32⟩
  | .hbm, ⟨66, _⟩ => ⟨S17152x1, .f32⟩
  | .hbm, ⟨67, _⟩ => ⟨S_, .f32⟩
  | .hbm, ⟨68, _⟩ => ⟨S17152x1, .f32⟩
  | .hbm, ⟨69, _⟩ => ⟨S17152x1, .f32⟩
  | .hbm, ⟨70, _⟩ => ⟨S_, .f32⟩
  | .hbm, ⟨71, _⟩ => ⟨S17152x1, .f32⟩
  | .hbm, ⟨72, _⟩ => ⟨S17152x1, .f32⟩
  | .hbm, ⟨73, _⟩ => ⟨S17152x1, .f32⟩
  | .hbm, ⟨74, _⟩ => ⟨S17152x1024, .f32⟩
  | .hbm, ⟨75, _⟩ => ⟨S17152x1024, .f32⟩
  | .hbm, ⟨76, _⟩ => ⟨S1x1024, .f32⟩
  | .hbm, ⟨77, _⟩ => ⟨S17152x1024, .f32⟩
  | .hbm, ⟨78, _⟩ => ⟨S17152x1024, .f32⟩
  | _, _ => ⟨S17152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.InProj.lean ====
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pipeline.ValueKit
public import Idealize.ShloMosaic.Lib.Pipeline.ValueKit.Held
import Idealize.ShloMosaic.Lib.Pipeline.ReadBack
import Idealize.ShloMosaic.Lib.Tactic.CleanTypes
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

open Cert.Kernel2Ideal Cert.Kernel2Ideal.Gen

variable (m : (ℓ : Loc nD τ sig) → Buf (Elt Ideal) ℓ)

/-- The root mean square norm of row `r` of `x`, times the weight `w`, at column `k`. -/
def normed (x : Fin 17152 → Fin 1024 → EReal) (w : Fin 1024 → EReal) (r : Fin 17152) (k : Fin 1024) : EReal :=
  x r k * Ideal.rsqrt (Ideal.div (∑ k' : Fin 1024, x r k' * x r k') (Ideal.ofBits .f32 0x44800000#32)
    + Ideal.ofBits .f32 0x358637BD#32) * w k

/-- The first payload at an index: the norm of the row of the block. -/
theorem pay1_apply (x : Vec Ideal S1072x1024 .f32) (w : Vec Ideal S1x1024 .f32) (a : Fin 1072) (k : Fin 1024) :
    k0_pay1 (F := Ideal) x w (ix2 a k) = x (ix2 a k) * Ideal.rsqrt (Ideal.div (∑ k' : Fin 1024, x (ix2 a k') * x (ix2 a k'))
      (Ideal.ofBits .f32 0x44800000#32) + Ideal.ofBits .f32 0x358637BD#32) * w (ix2 0 k) := by
  pointwise [k0_pay1]

/-- The second payload at an index: the product of a row of the block with a column of the slab. -/
theorem pay2_apply (u : Vec Ideal S1072x1024 .bf16) (v : Vec Ideal S1x1024x512 .bf16) (a : Fin 1072) (b : Fin 512) :
    k0_pay2 (F := Ideal) u v (ix2 a b) = ∑ k : Fin 1024, u (ix2 a k) * v (ix3 0 k b) := by
  pointwise [k0_pay2]

/-- What a point that starts a run of 19 leaves in the scratch. -/
theorem scratch_A (c : Dev nD) (t : Fin cfg0.N) (h0 : t.val % 19 = 0) :
    (outsAt0 m c t.val t.isLt).2 = k0_pay1 (F := Ideal) (iblk m c 0 t) (iblk m c 1 t) := by
  rw [outsAt0_A m c t h0]
  frame_out

/-- What the other points leave in the scratch: what was there. -/
theorem scratch_B (c : Dev nD) (t : Fin cfg0.N) (h0 : ¬t.val % 19 = 0) :
    (outsAt0 m c t.val t.isLt).2 = (outsAt0 m c (t.val - 1) (Nat.lt_of_le_of_lt (Nat.sub_le _ _) t.isLt)).2 := by
  rw [outsAt0_B m c t h0]
  rfl

/-- The input rows' block index at a grid point: the point's block of rows. -/
theorem idx0 : ∀ t : Fin cfg0.N, win0_0.index t = ![t.val / 19, 0] :=
  (by decide +kernel : ∀ t : Fin grid0.N, win0_0.index t = ![t.val / 19, 0])
/-- The norm weights' block index is the same at every point. -/
theorem idx1 : ∀ t : Fin cfg0.N, win0_1.index t = ![0, 0] :=
  (by decide +kernel : ∀ t : Fin grid0.N, win0_1.index t = ![0, 0])
/-- The input weights' block index is the same at every point. -/
theorem idx2 : ∀ t : Fin cfg0.N, win0_2.index t = ![0, 0, 0] :=
  (by decide +kernel : ∀ t : Fin grid0.N, win0_2.index t = ![0, 0, 0])
/-- The place at which a point reads its slab: its column block. -/
theorem off1 : ∀ t : Fin cfg0.N, k0_off1 (grid0.coords t) = ![t.val % 19, 0, 0] :=
  (by decide +kernel : ∀ t : Fin grid0.N, k0_off1 (grid0.coords t) = ![t.val % 19, 0, 0])

/-- The slab at the point's place in its run, read at an index. -/
theorem slab_apply (X : Vec Ideal S19x1024x512 .bf16) (t : Fin cfg0.N) (h) (k : Fin 1024) (b : Fin 512) :
    View.ld X (Rect.unit (s := S19x1024x512) (k0_off1 (grid0.coords t)) ![1, 1024, 512] h) (ix3 0 k b)
      = X (ix3 ⟨t.val % 19, Nat.mod_lt _ (by decide)⟩ k b) := by
  pointwise [off1 t]

/-- At the first column block of a row block, the block written is the normed rows times the point's slab. -/
theorem out_A (c : Dev nD) (t : Fin cfg0.N) (h0 : t.val % 19 = 0) (a : Fin 1072) (b : Fin 512) :
    (outsAt0 m c t.val t.isLt).1 (ix2 a b) = ∑ k : Fin 1024, (outsAt0 m c t.val t.isLt).2 (ix2 a k)
      * (iblk m c 2 t) (ix3 ⟨t.val % 19, Nat.mod_lt _ (by decide)⟩ k b) := by
  rw [scratch_A m c t h0, outsAt0_A m c t h0]
  frame_out
  rw [pay2_apply]
  exact Finset.sum_congr rfl fun k _ => by rw [slab_apply]

/-- At a later column block, the block written is the normed rows carried in scratch times the point's slab. -/
theorem out_B (c : Dev nD) (t : Fin cfg0.N) (h0 : ¬t.val % 19 = 0) (a : Fin 1072) (b : Fin 512) :
    (outsAt0 m c t.val t.isLt).1 (ix2 a b) = ∑ k : Fin 1024, (outsAt0 m c t.val t.isLt).2 (ix2 a k)
      * (iblk m c 2 t) (ix3 ⟨t.val % 19, Nat.mod_lt _ (by decide)⟩ k b) := by
  rw [scratch_B m c t h0, outsAt0_B m c t h0]
  frame_out
  rw [pay2_apply]
  refine Finset.sum_congr rfl fun k _ => ?_
  rw [slab_apply, read_unread_whole]

/-- The weight's columns regrouped. -/
def wcat (W : Vec Ideal S1024x9320 .f32) : Vec Ideal S1024x9728 .f32 :=
  concatenate S1024x9728 1
    [⟨S1024x5120, extractStridedSlice S1024x5120 ![0, 0] W slices_S1024x9320_S1024x5120_0_0⟩,
     ⟨S1024x2048, extractStridedSlice S1024x2048 ![0, 5152] W slices_S1024x9320_S1024x2048_0_5152⟩,
     ⟨S1024x2048, extractStridedSlice S1024x2048 ![0, 7272] W slices_S1024x9320_S1024x2048_0_7272⟩,
     ⟨S1024x64, extractStridedSlice S1024x64 ![0, 7200] W slices_S1024x9320_S1024x64_0_7200⟩,
     ⟨S1024x32, extractStridedSlice S1024x32 ![0, 5120] W slices_S1024x9320_S1024x32_0_5120⟩,
     ⟨S1024x8, extractStridedSlice S1024x8 ![0, 7264] W slices_S1024x9320_S1024x8_0_7264⟩,
     ⟨S1024x408, broadcastInDim S1024x408 ![] bcast_S_S1024x408 (constant (F := Ideal) S_ FTy.f32 0#32)⟩]
    concatenates_S1024x5120_S1024x2048_S1024x2048_S1024x64_S1024x32_S1024x8_S1024x408_S1024x9728_d1

/-- The weights the call is given: the regrouped columns, cut into slabs of 512 columns. -/
theorem w_entry (c : Dev nD) :
    (V m c main_v10 : Vec Ideal S19x1024x512 .bf16)
      = transpose S19x1024x512 [1, 0, 2] (shapeCast S1024x19x512 (truncf (F := Ideal) .bf16 (wcat (m (c.tc.loc main_arg2))) bitsLt_bf16_f32)
          shapeCasts_S1024x9728_S1024x19x512) transposes_S1024x19x512_S19x1024x512_1_0_2 := by
  unfold V
  after_results
  rfl

/-- An element of the slabs is the element of the matrix at that slab's column. -/
theorem w_at (W : Vec Ideal S1024x9728 .f32) (q : Fin 19) (k : Fin 1024) (b : Fin 512) :
    transpose S19x1024x512 [1, 0, 2] (shapeCast S1024x19x512 (truncf (F := Ideal) .bf16 W bitsLt_bf16_f32)
          shapeCasts_S1024x9728_S1024x19x512) transposes_S1024x19x512_S19x1024x512_1_0_2 (ix3 q k b)
      = W (ix2 k ⟨q.val * 512 + b.val, by omega⟩) := by
  pointwise

/-- The input rows' block at a point, element by element. -/
theorem x_read (c : Dev nD) (t : Fin cfg0.N) (a : Fin 1072) (k : Fin 1024) :
    (iblk m c 0 t) (ix2 a k) = (m (c.tc.loc main_arg0) : Vec Ideal S17152x1024 .f32) (ix2 ⟨t.val / 19 * 1072 + a.val, by have := t.isLt; have : cfg0.N = 304 := rfl; omega⟩ k) := by
  blk_ext [iblk, V, idx0 t]
/-- The norm weights' block at a point, element by element. -/
theorem n_read (c : Dev nD) (t : Fin cfg0.N) (k : Fin 1024) :
    (iblk m c 1 t) (ix2 0 k) = (V m c main_v11 : Vec Ideal S1x1024 .f32) (ix2 0 k) := by
  blk_ext [iblk, idx1 t]
/-- The norm weights the call is given are the argument's. -/
theorem n_entry (c : Dev nD) (k : Fin 1024) :
    (V m c main_v11 : Vec Ideal S1x1024 .f32) (ix2 0 k) = (m (c.tc.loc main_arg1) : Vec Ideal S1024 .f32) (ix1 k) := by
  entry_read
  pointwise
/-- The slabs' block at a point is all of the slabs. -/
theorem w_read (c : Dev nD) (t : Fin cfg0.N) (q : Fin 19) (k : Fin 1024) (b : Fin 512) :
    (iblk m c 2 t) (ix3 q k b) = (V m c main_v10 : Vec Ideal S19x1024x512 .bf16) (ix3 q k b) := by
  blk_ext [iblk, idx2 t]
/-- Seven columns -/
def pick (f : Fin 9320 → EReal) (n : Fin 9728) : EReal :=
  if h : n.val < 9320 then f ⟨if n.val < 5120 then n.val else if n.val < 7168 then n.val + 32 else if n.val < 9216 then n.val + 104
    else if n.val < 9280 then n.val - 2016 else if n.val < 9312 then n.val - 4160 else n.val - 2048, by split_ifs <;> omega⟩ else 0

/-- An index with these two coordinates is the pair of them. -/
theorem idx_at {R C : Nat} (r : Fin R) (q : Fin C) (v : (⟨2, ![R, C]⟩ : Shape).Idx) (h0 : (v 0).val = r.val) (h1 : (v 1).val = q.val) :
    Shape.Idx.norm v = ix2 r q :=
  funext fun b => Fin.ext (Fin.forall_fin_two (p := fun b => (v b).val = (ix2 r q b).val) |>.2 ⟨h0, h1⟩ b)

/-- Seven pieces laid side by side, read at a column. -/
theorem cat_pick {R : Nat} (P : Vec Ideal ⟨2, ![R, 9320]⟩ .f32) (x1 : Vec Ideal ⟨2, ![R, 5120]⟩ .f32) (x2 x3 : Vec Ideal ⟨2, ![R, 2048]⟩ .f32)
    (x4 : Vec Ideal ⟨2, ![R, 64]⟩ .f32) (x5 : Vec Ideal ⟨2, ![R, 32]⟩ .f32) (x6 : Vec Ideal ⟨2, ![R, 8]⟩ .f32) (x7 : Vec Ideal ⟨2, ![R, 408]⟩ .f32)
    (r : Fin R) (h)
    (e1 : ∀ q : Fin 5120, x1 (ix2 r q) = P (ix2 r ⟨q.val, by omega⟩))
    (e2 : ∀ q : Fin 2048, x2 (ix2 r q) = P (ix2 r ⟨5152 + q.val, by omega⟩))
    (e3 : ∀ q : Fin 2048, x3 (ix2 r q) = P (ix2 r ⟨7272 + q.val, by omega⟩))
    (e4 : ∀ q : Fin 64, x4 (ix2 r q) = P (ix2 r ⟨7200 + q.val, by omega⟩))
    (e5 : ∀ q : Fin 32, x5 (ix2 r q) = P (ix2 r ⟨5120 + q.val, by omega⟩))
    (e6 : ∀ q : Fin 8, x6 (ix2 r q) = P (ix2 r ⟨7264 + q.val, by omega⟩))
    (e7 : ∀ q : Fin 408, x7 (ix2 r q) = 0) (n : Fin 9728) :
    concatenate (⟨2, ![R, 9728]⟩ : Shape) 1 [⟨_, x1⟩, ⟨_, x2⟩, ⟨_, x3⟩, ⟨_, x4⟩, ⟨_, x5⟩, ⟨_, x6⟩, ⟨_, x7⟩] h (ix2 r n)
      = pick (fun q => P (ix2 r q)) n := by
  pointwise
  unfold pick
  have hn := n.isLt
  by_cases h1 : n.val < 5120
  · rw [dif_pos h1, idx_at r ⟨n.val, h1⟩ _ (by rfl) (by rfl), e1, dif_pos (by omega)]
    exact congrArg (fun q => P (ix2 r q)) (Fin.ext (by simp only []; split_ifs <;> omega))
  by_cases h2 : n.val - 5120 < 2048
  · rw [dif_neg h1, dif_pos h2, idx_at r ⟨n.val - 5120, h2⟩ _ (by rfl) (by rfl), e2, dif_pos (by omega)]
    exact congrArg (fun q => P (ix2 r q)) (Fin.ext (by simp only []; split_ifs <;> omega))
  by_cases h3 : n.val - 5120 - 2048 < 2048
  · rw [dif_neg h1, dif_neg h2, dif_pos h3, idx_at r ⟨n.val - 5120 - 2048, h3⟩ _ (by rfl) (by rfl), e3, dif_pos (by omega)]
    exact congrArg (fun q => P (ix2 r q)) (Fin.ext (by simp only []; split_ifs <;> omega))
  by_cases h4 : n.val - 5120 - 2048 - 2048 < 64
  · rw [dif_neg h1, dif_neg h2, dif_neg h3, dif_pos h4, idx_at r ⟨n.val - 5120 - 2048 - 2048, h4⟩ _ (by rfl) (by rfl), e4, dif_pos (by omega)]
    exact congrArg (fun q => P (ix2 r q)) (Fin.ext (by simp only []; split_ifs <;> omega))
  by_cases h5 : n.val - 5120 - 2048 - 2048 - 64 < 32
  · rw [dif_neg h1, dif_neg h2, dif_neg h3, dif_neg h4, dif_pos h5, idx_at r ⟨n.val - 5120 - 2048 - 2048 - 64, h5⟩ _ (by rfl) (by rfl), e5, dif_pos (by omega)]
    exact congrArg (fun q => P (ix2 r q)) (Fin.ext (by simp only []; split_ifs <;> omega))
  by_cases h6 : n.val - 5120 - 2048 - 2048 - 64 - 32 < 8
  · rw [dif_neg h1, dif_neg h2, dif_neg h3, dif_neg h4, dif_neg h5, dif_pos h6, idx_at r ⟨n.val - 5120 - 2048 - 2048 - 64 - 32, h6⟩ _ (by rfl) (by rfl), e6, dif_pos (by omega)]
    exact congrArg (fun q => P (ix2 r q)) (Fin.ext (by simp only []; split_ifs <;> omega))
  rw [dif_neg h1, dif_neg h2, dif_neg h3, dif_neg h4, dif_neg h5, dif_neg h6, idx_at r ⟨n.val - 5120 - 2048 - 2048 - 64 - 32 - 8, by omega⟩ _ (by rfl) (by rfl), e7, dif_neg (by omega)]

/-- The kernel's regrouped weight at an index. -/
theorem wcat_apply (W : Vec Ideal S1024x9320 .f32) (k : Fin 1024) (n : Fin 9728) :
    wcat W (ix2 k n) = pick (fun q => W (ix2 k q)) n := by
  refine cat_pick W _ _ _ _ _ _ _ k _ ?_ ?_ ?_ ?_ ?_ ?_ ?_ n <;> intro q <;> pointwise

/-- A sum of products with the regrouped columns is the regrouped sum. -/
theorem sum_pick (u : Fin 1024 → EReal) (W : Fin 1024 → Fin 9320 → EReal) (n : Fin 9728) :
    ∑ k : Fin 1024, u k * pick (W k) n = pick (fun q => ∑ k : Fin 1024, u k * W k q) n := by
  unfold pick
  by_cases h : n.val < 9320
  · simp only [dif_pos h]
  · simp only [dif_neg h, mul_zero, Finset.sum_const_zero]

/-- The slab array the kernel reads, at an index. -/
theorem slab_pick (c : Dev nD) (t : Fin cfg0.N) (q : Fin 19) (k : Fin 1024) (b : Fin 512) :
    (iblk m c 2 t) (ix3 q k b)
      = pick (fun q => (m (c.tc.loc main_arg2) : Vec Ideal S1024x9320 .f32) (ix2 k q)) ⟨q.val * 512 + b.val, by omega⟩ :=
  (w_read m c t q k b).trans ((congrFun (w_entry m c) _).trans ((w_at _ q k b).trans (wcat_apply _ _ _)))

/-- What both programs compute, at row `r` and column `n`. -/
def spec (x : Vec Ideal S17152x1024 .f32) (w : Vec Ideal S1024 .f32) (W : Vec Ideal S1024x9320 .f32) (r : Fin 17152) (n : Fin 9728) : EReal :=
  pick (fun q => ∑ k : Fin 1024, normed (fun r k => x (ix2 r k)) (fun k => w (ix1 k)) r k * W (ix2 k q)) n

/-- The scratch at a point holds the norm of its run's rows. -/
theorem scratch_apply (c : Dev nD) (t : Fin cfg0.N) (a : Fin 1072) (k : Fin 1024) :
    (outsAt0 m c t.val t.isLt).2 (ix2 a k)
      = normed (fun r k => (m (c.tc.loc main_arg0) : Vec Ideal S17152x1024 .f32) (ix2 r k))
          (fun k => (m (c.tc.loc main_arg1) : Vec Ideal S1024 .f32) (ix1 k))
          ⟨t.val / 19 * 1072 + a.val, by have := t.isLt; have : cfg0.N = 304 := rfl; omega⟩ k := by
  rw [Pipeline.eq_of_write_hold (fun n h => (outsAt0 m c n h).2) 19
    (fun t => k0_pay1 (F := Ideal) (iblk m c 0 t) (iblk m c 1 t)) (scratch_A m c) (scratch_B m c) t, pay1_apply]
  simp only [x_read, n_read]
  have e : 19 * (t.val / 19) / 19 = t.val / 19 := by omega
  simp only [e]
  exact congrArg (fun z : EReal => _ * z) (n_entry m c k)

/-- The block a point writes, at an index. -/
theorem out_apply (c : Dev nD) (t : Fin cfg0.N) (a : Fin 1072) (b : Fin 512) :
    (outsAt0 m c t.val t.isLt).1 (ix2 a b)
      = spec (m (c.tc.loc main_arg0)) (m (c.tc.loc main_arg1)) (m (c.tc.loc main_arg2))
          ⟨t.val / 19 * 1072 + a.val, by have := t.isLt; have : cfg0.N = 304 := rfl; omega⟩
          ⟨t.val % 19 * 512 + b.val, by omega⟩ := by
  have h : (outsAt0 m c t.val t.isLt).1 (ix2 a b) = ∑ k : Fin 1024, (outsAt0 m c t.val t.isLt).2 (ix2 a k)
      * (iblk m c 2 t) (ix3 ⟨t.val % 19, Nat.mod_lt _ (by decide)⟩ k b) := by
    by_cases h0 : t.val % 19 = 0
    · exact out_A m c t h0 a b
    · exact out_B m c t h0 a b
  rw [h]
  exact (Finset.sum_congr rfl fun k _ => congrArg₂ (fun y z : EReal => y * z) (scratch_apply m c t a k) (slab_pick m c t _ k b)).trans
    (sum_pick _ _ _)

/-- The array the kernel ends with, at an index. -/
theorem G_apply (c : Dev nD) (r : Fin 17152) (n : Fin 9728) :
    Value.G3 m c (ix2 r n) = spec (m (c.tc.loc main_arg0)) (m (c.tc.loc main_arg1)) (m (c.tc.loc main_arg2)) r n := by
  have hr := r.isLt
  have hn := n.isLt
  have hp : Value.pt3Of (ix2 r n) = 19 * (r.val / 1072) + n.val / 512 := by
    show 19 * (r.val / 1072 - 0) + 1 * (n.val / 512 - 0) = _
    omega
  have ht : Value.pt3Of (ix2 r n) < cfg0.N := by
    rw [hp, show cfg0.N = 304 from rfl]; omega
  have hl : Value.loc3Of (ix2 r n) = ix2 ⟨r.val % 1072, Nat.mod_lt _ (by decide)⟩ ⟨n.val % 512, Nat.mod_lt _ (by decide)⟩ :=
    funext fun b => Fin.ext (Fin.forall_fin_two (p := fun b => (Value.loc3Of (ix2 r n) b).val
      = ((ix2 ⟨r.val % 1072, Nat.mod_lt _ (by decide)⟩ ⟨n.val % 512, Nat.mod_lt _ (by decide)⟩ : S1072x512.Idx) b).val) |>.2 ⟨rfl, rfl⟩ b)
  unfold Value.G3
  rw [dif_pos ht, ← Value.outsAt0_sweep m c _ ht, hl, out_apply m c ⟨_, ht⟩]
  congr 1 <;> apply Fin.ext <;> simp only [hp] <;> omega

/-- The reference's result at an index. -/
theorem ref_at (m' : (ℓ : Loc Cert.Reference2Ideal.nD Cert.Reference2Ideal.τ Cert.Reference2Ideal.sig) → Buf (Elt Ideal) ℓ)
    (c : Dev nD) (r : Fin 17152) (n : Fin 9728) :
    Cert.Reference2Ideal.Value.res_out0 m' c (ix2 r n)
      = spec (m' (c.tc.loc Cert.Reference2Ideal.main_arg0)) (m' (c.tc.loc Cert.Reference2Ideal.main_arg1))
          (m' (c.tc.loc Cert.Reference2Ideal.main_arg2)) r n := by
  unfold Cert.Reference2Ideal.Value.res_out0 Cert.Reference2Ideal.Value.res_main_v21
  clean_types
  refine cat_pick (R := 17152) (fun i => ∑ k : Fin 1024, normed (fun r k => (m' (c.tc.loc Cert.Reference2Ideal.main_arg0) : Vec Ideal S17152x1024 .f32) (ix2 r k))
    (fun k => (m' (c.tc.loc Cert.Reference2Ideal.main_arg1) : Vec Ideal S1024 .f32) (ix1 k)) (i 0) k
      * (m' (c.tc.loc Cert.Reference2Ideal.main_arg2) : Vec Ideal S1024x9320 .f32) (ix2 k (i 1))) _ _ _ _ _ _ _ r _ ?_ ?_ ?_ ?_ ?_ ?_ ?_ n
    <;> intro q <;> pointwise [normed]

/-- The kernel's array, as one function of its arguments. -/
theorem G_eq (c : Dev nD) :
    (Value.G3 m c : Vec Ideal S17152x9728 .f32) = fun i => spec (m (c.tc.loc main_arg0)) (m (c.tc.loc main_arg1)) (m (c.tc.loc main_arg2)) (i 0) (i 1) :=
  funext fun i => (congrArg (Value.G3 m c) (eq_ix2 (n0 := 17152) (n1 := 9728) i)).trans (G_apply m c (i 0) (i 1))

/-- The reference's result, as one function of its arguments. -/
theorem ref_eq (m' : (ℓ : Loc Cert.Reference2Ideal.nD Cert.Reference2Ideal.τ Cert.Reference2Ideal.sig) → Buf (Elt Ideal) ℓ) (c : Dev nD) :
    (Cert.Reference2Ideal.Value.res_main_v21 m' c : Vec Ideal S17152x9728 .f32)
      = fun i => spec (m' (c.tc.loc Cert.Reference2Ideal.main_arg0)) (m' (c.tc.loc Cert.Reference2Ideal.main_arg1))
          (m' (c.tc.loc Cert.Reference2Ideal.main_arg2)) (i 0) (i 1) :=
  funext fun i => (congrArg (Cert.Reference2Ideal.Value.res_main_v21 m' c) (eq_ix2 (n0 := 17152) (n1 := 9728) i)).trans (ref_at m' c (i 0) (i 1))

end Cert.InProj

end
-- ==== Proof.Mix.lean ====
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.InProj

@[expose] public section

set_option maxRecDepth 16384

noncomputable section

open Idealize.ShloMosaic Idealize.ShloMosaic.TcCoe Idealize.SL.Sem
open Idealize.ShloMosaic.Pipeline (Dat)

namespace Cert.Mix

open Cert.Kernel3Ideal Cert.Kernel3Ideal.Gen

variable (m : (ℓ : Loc nD τ sig) → Buf (Elt Ideal) ℓ)

/-- The sigmoid as the reference writes it. -/
def sg (x : EReal) : EReal := Ideal.div (Ideal.ofBits .f32 0x3F800000#32) (Ideal.ofBits .f32 0x3F800000#32 + Ideal.exp (-x))

/-- The sigmoid as the kernel writes it, by the hyperbolic tangent. -/
theorem sg_tanh (x : EReal) : Ideal.ofBits .f32 0x3F000000#32 * Ideal.tanh (Ideal.ofBits .f32 0x3F000000#32 * x) + Ideal.ofBits .f32 0x3F000000#32 = sg x := by
  have h2 : Ideal.ofBits .f32 0x3F000000#32 = (((1 / 2 : ℝ)) : EReal) := by
    simp [Ideal.ofBits, Ideal.ieee, -EReal.coe_mul]; norm_num
  have hs : sg x = Ideal.logistic x := by
    unfold sg Ideal.logistic
    rw [Ideal.ofBits_one_f32]
  rw [hs, h2]
  induction x using EReal.rec with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, Real.tanh_eq_sinh_div_cosh, Real.sinh_eq, Real.cosh_eq]
    congr 1
    have e : Real.exp (-r) = Real.exp (-(1 / 2 * r)) * Real.exp (-(1 / 2 * r)) := by rw [← Real.exp_add]; congr 1; ring
    have e2 : Real.exp (1 / 2 * r) = (Real.exp (-(1 / 2 * r)))⁻¹ := by rw [← Real.exp_neg, neg_neg]
    rw [e, e2]
    have hp := Real.exp_pos (-(1 / 2 * r))
    generalize Real.exp (-(1 / 2 * r)) = z at hp
    field_simp
    ring

/-- The root mean square norm of row `x`, times the weight `w`, at column `k`. -/
def normed (x w : Fin 1024 → EReal) (k : Fin 1024) : EReal :=
  x k * Ideal.rsqrt (Ideal.div (∑ k' : Fin 1024, x k' * x k') (Ideal.ofBits .f32 0x44800000#32) + Ideal.ofBits .f32 0x358637BD#32) * w k

/-- The kernel's test for a prompt block is true exactly of the first 66 points. -/
theorem sel_lt : ∀ n : Fin 67, Scalar.cmpi .slt (BitVec.ofNat 32 n.val) 66#32 = if n.val < 66 then 1#1 else 0#1 := by
  decide +kernel

/-- The first of two values at the prompt's 66 row blocks, else the second. -/
def choose {α : Type} (n : Nat) (x y : α) : α := if n < 66 then x else y

/-- The kernel's choice between the prompt's rows and the samples' rows. -/
theorem select_lt {α : Type} (i : grid0.Coords) (x y : α) :
    Scalar.select (Scalar.cmpi .slt (BitVec.ofNat 32 (i 0).val) 66#32) x y = choose (i 0).val x y := by
  rw [sel_lt (i 0)]
  unfold choose
  by_cases h : (i 0).val < 66
  · rw [if_pos h, if_pos h]; rfl
  · rw [if_neg h, if_neg h]; rfl

/-- The attention output chosen at a point, times its projection, element by element. -/
theorem pay2_apply (i : grid0.Coords) (v6 : Vec Ideal S256x1024 .bf16) (v8 : Vec Ideal S256x1024 .f32) (v14 : Vec Ideal S1024x1024 .bf16)
    (a : Fin 256) (b : Fin 1024) :
    k0_pay2 (F := Ideal) i v6 v8 v14 (ix2 a b)
      = ∑ k : Fin 1024, choose (i 0).val (v6 (ix2 a k)) (v8 (ix2 a k)) * v14 (ix2 k b) := by
  pointwise [k0_pay2]
  simp only [select_lt]

/-- The state-space output chosen at a point, times its projection and gate, element by element. -/
theorem pay3_apply (i : grid0.Coords) (v1 : Vec Ideal S256x2048 .bf16) (v3 : Vec Ideal S256x2048 .f32) (v11 : Vec Ideal S2048x1024 .bf16)
    (v17 : Vec Ideal S256x1024 .f32) (a : Fin 256) (b : Fin 1024) :
    k0_pay3 (F := Ideal) i v1 v3 v11 v17 (ix2 a b)
      = sg (v17 (ix2 a b)) * ∑ k : Fin 2048, choose (i 0).val (v1 (ix2 a k)) (v3 (ix2 a k)) * v11 (ix2 k b) := by
  rw [← sg_tanh]
  pointwise [k0_pay3]
  simp only [select_lt]

/-- The merged row before the output projection. -/
def x1 (h : Fin 1024 → EReal) (g : Fin 1024 → EReal) (wo : Fin 1024 → Fin 1024 → EReal) (b : Fin 1024) : EReal :=
  h b + ∑ k : Fin 1024, g k * wo k b

/-- The second half of the layer on one row. -/
def mlp (x n2 : Fin 1024 → EReal) (wu : Fin 1024 → Fin 4096 → EReal) (wd : Fin 4096 → Fin 1024 → EReal) (b : Fin 1024) : EReal :=
  x b + ∑ j : Fin 4096, (max (∑ k : Fin 1024, normed x n2 k * wu k j) (Ideal.ofBits .f32 0x00000000#32)
      * max (∑ k : Fin 1024, normed x n2 k * wu k j) (Ideal.ofBits .f32 0x00000000#32)) * wd j b

/-- The row after the residual addition and the squared-relu layer, element by element. -/
theorem pay5_apply (v16 v26 v27 : Vec Ideal S256x1024 .f32) (v38 : Vec Ideal S256x1024 .f32) (v39 : Vec Ideal S1024x1024 .bf16)
    (v44 : Vec Ideal S1x1024 .f32) (v58 : Vec Ideal S1024x4096 .bf16) (v65 : Vec Ideal S4096x1024 .bf16) (a : Fin 256) (b : Fin 1024) :
    k0_pay5 (F := Ideal) v16 v26 (k0_pay4 v27) (FloatOps.ofBits FTy.f32 1056964608#32) v38 v39 v44 v58 v65 (ix2 a b)
      = mlp (x1 (fun b => v38 (ix2 a b)) (fun b => v26 (ix2 a b) + sg (v27 (ix2 a b)) * v16 (ix2 a b)) (fun k b => v39 (ix2 k b)))
          (fun k => v44 (ix2 0 k)) (fun k j => v58 (ix2 k j)) (fun j b => v65 (ix2 j b)) b := by
  simp only [← sg_tanh]
  pointwise [k0_pay5, k0_pay4, mlp, x1, normed]

/-- The final norm of a row from its mean square, element by element. -/
theorem pay1_apply (v69 : Vec Ideal S256x1024 .f32) (v70 : Vec Ideal S1x1024 .f32) (v73 : Vec Ideal S256 .f32) (a : Fin 256) (b : Fin 1024) :
    k0_pay1 (F := Ideal) v69 (k0_pay6 v70) v73 (ix2 a b)
      = v69 (ix2 a b) * Ideal.rsqrt (Ideal.div (v73 (ix1 a)) (Ideal.ofBits .f32 0x44800000#32) + Ideal.ofBits .f32 0x358637BD#32) * v70 (ix2 0 b) := by
  pointwise [k0_pay1, k0_pay6]

/-- The mean of the squares of the row after the squared-relu layer. -/
theorem pay7_apply (v16 v26 v33 : Vec Ideal S256x1024 .f32) (z) (v38 : Vec Ideal S256x1024 .f32) (v39 : Vec Ideal S1024x1024 .bf16)
    (v44 : Vec Ideal S1x1024 .f32) (v58 : Vec Ideal S1024x4096 .bf16) (v65 : Vec Ideal S4096x1024 .bf16) (a : Fin 256) :
    k0_pay7 (F := Ideal) v16 v26 v33 z v38 v39 v44 v58 v65 (ix1 a)
      = ∑ b : Fin 1024, k0_pay5 (F := Ideal) v16 v26 v33 z v38 v39 v44 v58 v65 (ix2 a b) * k0_pay5 (F := Ideal) v16 v26 v33 z v38 v39 v44 v58 v65 (ix2 a b) := by
  unfold k0_pay7
  generalize k0_pay5 (F := Ideal) v16 v26 v33 z v38 v39 v44 v58 v65 = P
  pointwise

/-- The row windows' block indices at a grid point. -/
theorem idx0 : ∀ t : Fin cfg0.N, win0_0.index t = ![t.val, 0] ∧ win0_1.index t = ![min t.val 65, 0] ∧ win0_2.index t = ![t.val - 66, 0]
    ∧ win0_3.index t = ![min t.val 65, 0] ∧ win0_4.index t = ![t.val - 66, 0] ∧ win0_5.index t = ![t.val, 7] ∧ win0_6.index t = ![t.val, 8]
    ∧ win0_14.index t = ![t.val, 0] ∧ (grid0.coords t 0).val = t.val :=
  (by decide +kernel : ∀ t : Fin grid0.N, win0_0.index t = ![t.val, 0] ∧ win0_1.index t = ![min t.val 65, 0] ∧ win0_2.index t = ![t.val - 66, 0]
    ∧ win0_3.index t = ![min t.val 65, 0] ∧ win0_4.index t = ![t.val - 66, 0] ∧ win0_5.index t = ![t.val, 7] ∧ win0_6.index t = ![t.val, 8]
    ∧ win0_14.index t = ![t.val, 0] ∧ (grid0.coords t 0).val = t.val)

/-- The weights' block indices are the same at every point. -/
theorem idxw : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0])

/-- The residual rows' block at a point, element by element. -/
theorem x_read (c : Dev nD) (t : Fin cfg0.N) (a : Fin 256) (k : Fin 1024) :
    (iblk m c 0 t) (ix2 a k) = (m (c.tc.loc main_arg0) : Vec Ideal S17152x1024 .f32)
      (ix2 ⟨t.val * 256 + a.val, by have := t.isLt; have : cfg0.N = 67 := rfl; omega⟩ k) := by
  blk_ext [iblk, V, (idx0 t).1]

/-- The prompts' state-space block at a point, element by element. -/
theorem ysp_read (c : Dev nD) (t : Fin cfg0.N) (a : Fin 256) (k : Fin 2048) :
    (iblk m c 1 t) (ix2 a k) = (V m c main_v0 : Vec Ideal S16896x2048 .bf16) (ix2 ⟨min t.val 65 * 256 + a.val, by omega⟩ k) := by
  blk_ext [iblk, (idx0 t).2.1]
/-- The samples' state-space block at a point, element by element. -/
theorem yss_read (c : Dev nD) (t : Fin cfg0.N) (a : Fin 256) (k : Fin 2048) :
    (iblk m c 2 t) (ix2 a k) = (m (c.tc.loc main_arg2) : Vec Ideal S256x2048 .f32)
      (ix2 ⟨(t.val - 66) * 256 + a.val, by have := t.isLt; have : cfg0.N = 67 := rfl; omega⟩ k) := by
  blk_ext [iblk, V, (idx0 t).2.2.1]
/-- The prompts' attention block at a point, element by element. -/
theorem yap_read (c : Dev nD) (t : Fin cfg0.N) (a : Fin 256) (k : Fin 1024) :
    (iblk m c 3 t) (ix2 a k) = (V m c main_v1 : Vec Ideal S16896x1024 .bf16) (ix2 ⟨min t.val 65 * 256 + a.val, by omega⟩ k) := by
  blk_ext [iblk, (idx0 t).2.2.2.1]
/-- The samples' attention block at a point, element by element. -/
theorem yas_read (c : Dev nD) (t : Fin cfg0.N) (a : Fin 256) (k : Fin 1024) :
    (iblk m c 4 t) (ix2 a k) = (m (c.tc.loc main_arg4) : Vec Ideal S256x1024 .f32)
      (ix2 ⟨(t.val - 66) * 256 + a.val, by have := t.isLt; have : cfg0.N = 67 := rfl; omega⟩ k) := by
  blk_ext [iblk, V, (idx0 t).2.2.2.2.1]
/-- The state-space gate's block at a point, element by element. -/
theorem gs_read (c : Dev nD) (t : Fin cfg0.N) (a : Fin 256) (k : Fin 1024) :
    (X0_5 m c t) (ix2 a k) = (V m c main_v9 : Vec Ideal S17152x9728 .f32)
      (ix2 ⟨t.val * 256 + a.val, by have := t.isLt; have : cfg0.N = 67 := rfl; omega⟩ ⟨7168 + k.val, by omega⟩) := by
  unfold X0_5 Pipeline.Window.fill
  rw [dif_pos (moved0_5 t _)]
  blk_ext [iblk, (idx0 t).2.2.2.2.2.1]
/-- The attention gate's block at a point, element by element. -/
theorem ga_read (c : Dev nD) (t : Fin cfg0.N) (a : Fin 256) (k : Fin 1024) :
    (X0_6 m c t) (ix2 a k) = (V m c main_v9 : Vec Ideal S17152x9728 .f32)
      (ix2 ⟨t.val * 256 + a.val, by have := t.isLt; have : cfg0.N = 67 := rfl; omega⟩ ⟨8192 + k.val, by omega⟩) := by
  unfold X0_6 Pipeline.Window.fill
  rw [dif_pos (moved0_6 t _)]
  blk_ext [iblk, (idx0 t).2.2.2.2.2.2.1]
/-- The state-space projection's block is the whole matrix. -/
theorem w7_read (c : Dev nD) (t : Fin cfg0.N) (k : Fin 2048) (b : Fin 1024) :
    (iblk m c 7 t) (ix2 k b) = (V m c main_v10 : Vec Ideal S2048x1024 .bf16) (ix2 k b) := by
  blk_ext [iblk, (idxw t).1]
/-- The attention projection's block is the whole matrix. -/
theorem w8_read (c : Dev nD) (t : Fin cfg0.N) (k : Fin 1024) (b : Fin 1024) :
    (iblk m c 8 t) (ix2 k b) = (V m c main_v11 : Vec Ideal S1024x1024 .bf16) (ix2 k b) := by
  blk_ext [iblk, (idxw t).2.1]
/-- The output projection's block is the whole matrix. -/
theorem w9_read (c : Dev nD) (t : Fin cfg0.N) (k : Fin 1024) (b : Fin 1024) :
    (iblk m c 9 t) (ix2 k b) = (V m c main_v12 : Vec Ideal S1024x1024 .bf16) (ix2 k b) := by
  blk_ext [iblk, (idxw t).2.2.1]
/-- The second norm's weights' block is all of them. -/
theorem w10_read (c : Dev nD) (t : Fin cfg0.N) (b : Fin 1024) :
    (iblk m c 10 t) (ix2 0 b) = (V m c main_v16 : Vec Ideal S1x1024 .f32) (ix2 0 b) := by
  blk_ext [iblk, (idxw t).2.2.2.1]
/-- The up projection's block is the whole matrix. -/
theorem w11_read (c : Dev nD) (t : Fin cfg0.N) (k : Fin 1024) (b : Fin 4096) :
    (iblk m c 11 t) (ix2 k b) = (V m c main_v13 : Vec Ideal S1024x4096 .bf16) (ix2 k b) := by
  blk_ext [iblk, (idxw t).2.2.2.2.1]
/-- The down projection's block is the whole matrix. -/
theorem w12_read (c : Dev nD) (t : Fin cfg0.N) (k : Fin 4096) (b : Fin 1024) :
    (iblk m c 12 t) (ix2 k b) = (V m c main_v14 : Vec Ideal S4096x1024 .bf16) (ix2 k b) := by
  blk_ext [iblk, (idxw t).2.2.2.2.2.1]
/-- The final norm's weights' block is all of them. -/
theorem w13_read (c : Dev nD) (t : Fin cfg0.N) (b : Fin 1024) :
    (iblk m c 13 t) (ix2 0 b) = (V m c main_v15 : Vec Ideal S1x1024 .f32) (ix2 0 b) := by
  blk_ext [iblk, (idxw t).2.2.2.2.2.2]

/-- The prompts' state-space rows the call is given are the argument's. -/
theorem ysp_entry (c : Dev nD) (r : Fin 16896) (k : Fin 2048) :
    (V m c main_v0 : Vec Ideal S16896x2048 .bf16) (ix2 r k) = (m (c.tc.loc main_arg1) : Vec Ideal S16896x2048 .f32) (ix2 r k) := by
  unfold V; after_results; rfl
/-- The prompts' attention rows the call is given are the argument's. -/
theorem yap_entry (c : Dev nD) (r : Fin 16896) (k : Fin 1024) :
    (V m c main_v1 : Vec Ideal S16896x1024 .bf16) (ix2 r k) = (m (c.tc.loc main_arg3) : Vec Ideal S16896x1024 .f32) (ix2 r k) := by
  unfold V; after_results; rfl
/-- The state-space projection the call is given is the argument's. -/
theorem w7_entry (c : Dev nD) (k : Fin 2048) (b : Fin 1024) :
    (V m c main_v10 : Vec Ideal S2048x1024 .bf16) (ix2 k b) = (m (c.tc.loc main_arg6) : Vec Ideal S2048x1024 .f32) (ix2 k b) := by
  unfold V; after_results; rfl
/-- The attention projection the call is given is the argument's. -/
theorem w8_entry (c : Dev nD) (k : Fin 1024) (b : Fin 1024) :
    (V m c main_v11 : Vec Ideal S1024x1024 .bf16) (ix2 k b) = (m (c.tc.loc main_arg7) : Vec Ideal S1024x1024 .f32) (ix2 k b) := by
  unfold V; after_results; rfl
/-- The output projection the call is given is the argument's. -/
theorem w9_entry (c : Dev nD) (k : Fin 1024) (b : Fin 1024) :
    (V m c main_v12 : Vec Ideal S1024x1024 .bf16) (ix2 k b) = (m (c.tc.loc main_arg8) : Vec Ideal S1024x1024 .f32) (ix2 k b) := by
  unfold V; after_results; rfl
/-- The up projection the call is given is the argument's. -/
theorem w11_entry (c : Dev nD) (k : Fin 1024) (b : Fin 4096) :
    (V m c main_v13 : Vec Ideal S1024x4096 .bf16) (ix2 k b) = (m (c.tc.loc main_arg10) : Vec Ideal S1024x4096 .f32) (ix2 k b) := by
  unfold V; after_results; rfl
/-- The down projection the call is given is the argument's. -/
theorem w12_entry (c : Dev nD) (k : Fin 4096) (b : Fin 1024) :
    (V m c main_v14 : Vec Ideal S4096x1024 .bf16) (ix2 k b) = (m (c.tc.loc main_arg11) : Vec Ideal S4096x1024 .f32) (ix2 k b) := by
  unfold V; after_results; rfl
/-- The second norm's weights the call is given are the argument's. -/
theorem w10_entry (c : Dev nD) (b : Fin 1024) :
    (V m c main_v16 : Vec Ideal S1x1024 .f32) (ix2 0 b) = (m (c.tc.loc main_arg9) : Vec Ideal S1024 .f32) (ix1 b) := by
  unfold V; after_results; pointwise
/-- The final norm's weights the call is given are the argument's. -/
theorem w13_entry (c : Dev nD) (b : Fin 1024) :
    (V m c main_v15 : Vec Ideal S1x1024 .f32) (ix2 0 b) = (m (c.tc.loc main_arg12) : Vec Ideal S1024 .f32) (ix1 b) := by
  unfold V; after_results; pointwise

/-- The projections' columns regrouped. -/
def pcat (P : Vec Ideal S17152x9320 .f32) : Vec Ideal S17152x9728 .f32 :=
  concatenate S17152x9728 1
    [⟨S17152x5120, extractStridedSlice S17152x5120 ![0, 0] P slices_S17152x9320_S17152x5120_0_0⟩,
     ⟨S17152x2048, extractStridedSlice S17152x2048 ![0, 5152] P slices_S17152x9320_S17152x2048_0_5152⟩,
     ⟨S17152x2048, extractStridedSlice S17152x2048 ![0, 7272] P slices_S17152x9320_S17152x2048_0_7272⟩,
     ⟨S17152x64, extractStridedSlice S17152x64 ![0, 7200] P slices_S17152x9320_S17152x64_0_7200⟩,
     ⟨S17152x32, extractStridedSlice S17152x32 ![0, 5120] P slices_S17152x9320_S17152x32_0_5120⟩,
     ⟨S17152x8, extractStridedSlice S17152x8 ![0, 7264] P slices_S17152x9320_S17152x8_0_7264⟩,
     ⟨S17152x408, broadcastInDim S17152x408 ![] bcast_S_S17152x408 (constant (F := Ideal) S_ FTy.f32 0#32)⟩]
    concatenates_S17152x5120_S17152x2048_S17152x2048_S17152x64_S17152x32_S17152x8_S17152x408_S17152x9728_d1

/-- The regrouped projections, element by element. -/
theorem pcat_apply (P : Vec Ideal S17152x9320 .f32) (r : Fin 17152) (n : Fin 9728) :
    pcat P (ix2 r n) = InProj.pick (fun q => P (ix2 r q)) n := by
  refine InProj.cat_pick P _ _ _ _ _ _ _ r _ ?_ ?_ ?_ ?_ ?_ ?_ ?_ n <;> intro q <;> pointwise

/-- The projections the call is given are the argument's, regrouped. -/
theorem p_entry (c : Dev nD) :
    (V m c main_v9 : Vec Ideal S17152x9728 .f32) = pcat (m (c.tc.loc main_arg5)) := by
  unfold V
  after_results
  rfl

/-- The first gate's column. -/
theorem gs_at (c : Dev nD) (t : Fin cfg0.N) (a : Fin 256) (k : Fin 1024) :
    (X0_5 m c t) (ix2 a k) = (m (c.tc.loc main_arg5) : Vec Ideal S17152x9320 .f32)
      (ix2 ⟨t.val * 256 + a.val, by have := t.isLt; have : cfg0.N = 67 := rfl; omega⟩ ⟨7272 + k.val, by omega⟩) := by
  refine (gs_read m c t a k).trans ((congrFun (p_entry m c) _).trans ((pcat_apply _ _ _).trans ?_))
  unfold InProj.pick
  rw [dif_pos (by simp only []; omega)]
  exact congrArg (fun q => (m (c.tc.loc main_arg5) : Vec Ideal S17152x9320 .f32) (ix2 _ q)) (Fin.ext (by simp only []; split_ifs <;> omega))

/-- The second gate's column. -/
theorem ga_at (c : Dev nD) (t : Fin cfg0.N) (a : Fin 256) (k : Fin 1024) :
    (X0_6 m c t) (ix2 a k) = (m (c.tc.loc main_arg5) : Vec Ideal S17152x9320 .f32)
      (ix2 ⟨t.val * 256 + a.val, by have := t.isLt; have : cfg0.N = 67 := rfl; omega⟩ ⟨8296 + k.val, by omega⟩) := by
  refine (ga_read m c t a k).trans ((congrFun (p_entry m c) _).trans ((pcat_apply _ _ _).trans ?_))
  unfold InProj.pick
  rw [dif_pos (by simp only []; omega)]
  exact congrArg (fun q => (m (c.tc.loc main_arg5) : Vec Ideal S17152x9320 .f32) (ix2 _ q)) (Fin.ext (by simp only []; split_ifs <;> omega))

/-- Row `r` of the prompt's rows followed by the samples' rows. -/
def rows {C : Nat} (xp : Vec Ideal ⟨2, ![16896, C]⟩ .f32) (xs : Vec Ideal ⟨2, ![256, C]⟩ .f32) (r : Fin 17152) (q : Fin C) : EReal :=
  if h : r.val < 16896 then xp (ix2 ⟨r.val, h⟩ q) else xs (ix2 ⟨r.val - 16896, by omega⟩ q)

/-- The gated merge of both mixers' projections at row `r`. -/
def merged (ysp : Vec Ideal S16896x2048 .f32) (yss : Vec Ideal S256x2048 .f32) (yap : Vec Ideal S16896x1024 .f32) (yas : Vec Ideal S256x1024 .f32)
    (p : Vec Ideal S17152x9320 .f32) (ws : Vec Ideal S2048x1024 .f32) (wa : Vec Ideal S1024x1024 .f32) (r : Fin 17152) (b : Fin 1024) : EReal :=
  sg (p (ix2 r ⟨7272 + b.val, by omega⟩)) * (∑ q : Fin 2048, rows ysp yss r q * ws (ix2 q b))
    + sg (p (ix2 r ⟨8296 + b.val, by omega⟩)) * ∑ q : Fin 1024, rows yap yas r q * wa (ix2 q b)

/-- The layer's end at row `r`: merge, output projection, squared-ReLU block and final norm. -/
def spec (h : Vec Ideal S17152x1024 .f32) (ysp : Vec Ideal S16896x2048 .f32) (yss : Vec Ideal S256x2048 .f32) (yap : Vec Ideal S16896x1024 .f32)
    (yas : Vec Ideal S256x1024 .f32) (p : Vec Ideal S17152x9320 .f32) (ws : Vec Ideal S2048x1024 .f32) (wa wo : Vec Ideal S1024x1024 .f32)
    (n2 : Vec Ideal S1024 .f32) (wu : Vec Ideal S1024x4096 .f32) (wd : Vec Ideal S4096x1024 .f32) (nf : Vec Ideal S1024 .f32)
    (r : Fin 17152) (b : Fin 1024) : EReal :=
  normed (mlp (x1 (fun b => h (ix2 r b)) (merged ysp yss yap yas p ws wa r) (fun k b => wo (ix2 k b)))
    (fun k => n2 (ix1 k)) (fun k j => wu (ix2 k j)) (fun j b => wd (ix2 j b))) (fun k => nf (ix1 k)) b

/-- The state-space row a point works on is the row of prompts and samples joined. -/
theorem ys_at (c : Dev nD) (t : Fin cfg0.N) (a : Fin 256) (q : Fin 2048) :
    choose (α := EReal) (grid0.coords t 0).val ((iblk m c 1 t) (ix2 a q)) ((iblk m c 2 t) (ix2 a q))
      = rows (m (c.tc.loc main_arg1)) (m (c.tc.loc main_arg2)) ⟨t.val * 256 + a.val, by have := t.isLt; have : cfg0.N = 67 := rfl; omega⟩ q := by
  have hN : t.val < 67 := t.isLt
  have ha := a.isLt
  rw [(idx0 t).2.2.2.2.2.2.2.2]
  unfold rows choose
  by_cases h : t.val < 66
  · rw [if_pos h, dif_pos (by simp only []; omega)]
    refine (ysp_read m c t a q).trans ((ysp_entry m c _ _).trans ?_)
    exact congrArg (fun r => (m (c.tc.loc main_arg1) : Vec Ideal S16896x2048 .f32) (ix2 r q)) (Fin.ext (by simp only []; omega))
  · rw [if_neg h, dif_neg (by simp only []; omega)]
    refine (yss_read m c t a q).trans ?_
    exact congrArg (fun r => (m (c.tc.loc main_arg2) : Vec Ideal S256x2048 .f32) (ix2 r q)) (Fin.ext (by simp only []; omega))

/-- The attention row a point works on is the row of prompts and samples joined. -/
theorem ya_at (c : Dev nD) (t : Fin cfg0.N) (a : Fin 256) (q : Fin 1024) :
    choose (α := EReal) (grid0.coords t 0).val ((iblk m c 3 t) (ix2 a q)) ((iblk m c 4 t) (ix2 a q))
      = rows (m (c.tc.loc main_arg3)) (m (c.tc.loc main_arg4)) ⟨t.val * 256 + a.val, by have := t.isLt; have : cfg0.N = 67 := rfl; omega⟩ q := by
  have hN : t.val < 67 := t.isLt
  have ha := a.isLt
  rw [(idx0 t).2.2.2.2.2.2.2.2]
  unfold rows choose
  by_cases h : t.val < 66
  · rw [if_pos h, dif_pos (by simp only []; omega)]
    refine (yap_read m c t a q).trans ((yap_entry m c _ _).trans ?_)
    exact congrArg (fun r => (m (c.tc.loc main_arg3) : Vec Ideal S16896x1024 .f32) (ix2 r q)) (Fin.ext (by simp only []; omega))
  · rw [if_neg h, dif_neg (by simp only []; omega)]
    refine (yas_read m c t a q).trans ?_
    exact congrArg (fun r => (m (c.tc.loc main_arg4) : Vec Ideal S256x1024 .f32) (ix2 r q)) (Fin.ext (by simp only []; omega))

/-- The state-space projection at a point, from the argument. -/
theorem w7_at (c : Dev nD) (t : Fin cfg0.N) (k : Fin 2048) (b : Fin 1024) :
    (iblk m c 7 t) (ix2 k b) = (m (c.tc.loc main_arg6) : Vec Ideal S2048x1024 .f32) (ix2 k b) := (w7_read m c t k b).trans (w7_entry m c k b)
/-- The attention projection at a point, from the argument. -/
theorem w8_at (c : Dev nD) (t : Fin cfg0.N) (k : Fin 1024) (b : Fin 1024) :
    (iblk m c 8 t) (ix2 k b) = (m (c.tc.loc main_arg7) : Vec Ideal S1024x1024 .f32) (ix2 k b) := (w8_read m c t k b).trans (w8_entry m c k b)
/-- The output projection at a point, from the argument. -/
theorem w9_at (c : Dev nD) (t : Fin cfg0.N) (k : Fin 1024) (b : Fin 1024) :
    (iblk m c 9 t) (ix2 k b) = (m (c.tc.loc main_arg8) : Vec Ideal S1024x1024 .f32) (ix2 k b) := (w9_read m c t k b).trans (w9_entry m c k b)
/-- The second norm's weights at a point, from the argument. -/
theorem w10_at (c : Dev nD) (t : Fin cfg0.N) (b : Fin 1024) :
    (iblk m c 10 t) (ix2 0 b) = (m (c.tc.loc main_arg9) : Vec Ideal S1024 .f32) (ix1 b) := (w10_read m c t b).trans (w10_entry m c b)
/-- The up projection at a point, from the argument. -/
theorem w11_at (c : Dev nD) (t : Fin cfg0.N) (k : Fin 1024) (b : Fin 4096) :
    (iblk m c 11 t) (ix2 k b) = (m (c.tc.loc main_arg10) : Vec Ideal S1024x4096 .f32) (ix2 k b) := (w11_read m c t k b).trans (w11_entry m c k b)
/-- The down projection at a point, from the argument. -/
theorem w12_at (c : Dev nD) (t : Fin cfg0.N) (k : Fin 4096) (b : Fin 1024) :
    (iblk m c 12 t) (ix2 k b) = (m (c.tc.loc main_arg11) : Vec Ideal S4096x1024 .f32) (ix2 k b) := (w12_read m c t k b).trans (w12_entry m c k b)
/-- The final norm's weights at a point, from the argument. -/
theorem w13_at (c : Dev nD) (t : Fin cfg0.N) (b : Fin 1024) :
    (iblk m c 13 t) (ix2 0 b) = (m (c.tc.loc main_arg12) : Vec Ideal S1024 .f32) (ix1 b) := (w13_read m c t b).trans (w13_entry m c b)

/-- The block a point writes, at an index. -/
theorem out_at (c : Dev nD) (t : Fin cfg0.N) (a : Fin 256) (b : Fin 1024) :
    outsAt0 m c t (ix2 a b) = spec (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (m (c.tc.loc main_arg10)) (m (c.tc.loc main_arg11)) (m (c.tc.loc main_arg12))
      ⟨t.val * 256 + a.val, by have := t.isLt; have : cfg0.N = 67 := rfl; omega⟩ b := by
  unfold outsAt0
  frame_out
  rw [pay1_apply, pay7_apply]
  simp only [pay5_apply, pay3_apply, pay2_apply]
  simp only [x_read, gs_at, ga_at, ys_at, ya_at, w7_at, w8_at, w9_at, w10_at, w11_at, w12_at, w13_at]
  rfl

/-- What the kernel's array is to hold. -/
def G (c : Dev nD) : Vec Ideal S17152x1024 .f32 := fun i =>
  spec (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (m (c.tc.loc main_arg10)) (m (c.tc.loc main_arg11)) (m (c.tc.loc main_arg12)) (i 0) (i 1)

/-- The call's result array is the layer's mixed rows. -/
theorem final (c : Dev nD) : (dats m 0 c).arrAt 14 cfg0.N = G m c := by
  refine (dats m 0 c).arrAt_eq_of_covers 14 (G m c) ?_ fun t hf y => ?_
  · decide +kernel
  · blk_simp
    rw [after0_14]
    refine (congrArg (outsAt0 m c t) (eq_ix2 (n0 := 256) (n1 := 1024) y)).trans ((out_at m c t (y 0) (y 1)).trans ?_)
    unfold G
    refine congrArg₂ (spec _ _ _ _ _ _ _ _ _ _ _ _ _) (Fin.ext ?_) (Fin.ext ?_)
    · blk_simp [(idx0 t).2.2.2.2.2.2.2.1]
    · blk_simp [(idx0 t).2.2.2.2.2.2.2.1]

end Cert.Mix

namespace Cert.MixRef

open Cert.Reference3Ideal Cert.Reference3Ideal.Gen
open Cert.Mix (sg normed mlp x1 rows merged spec)

/-- The logistic gate as the reference computes it. -/
def hSg (x : Vec Ideal S17152x1024 .f32) : Vec Ideal S17152x1024 .f32 :=
  Host.divf (F := Ideal) (broadcastInDim S17152x1024 ![] bcast_S_S17152x1024 (constant S_ .f32 0x3F800000#32))
    (addf (broadcastInDim S17152x1024 ![] bcast_S_S17152x1024 (constant S_ .f32 0x3F800000#32)) (Host.exp (Host.negf x)))

/-- The gated merge as the reference computes it. -/
def hMerged (ysp : Vec Ideal S16896x2048 .f32) (yss : Vec Ideal S256x2048 .f32) (yap : Vec Ideal S16896x1024 .f32) (yas : Vec Ideal S256x1024 .f32)
    (p : Vec Ideal S17152x9320 .f32) (ws : Vec Ideal S2048x1024 .f32) (wa : Vec Ideal S1024x1024 .f32) : Vec Ideal S17152x1024 .f32 :=
  addf (F := Ideal)
    (mulf (hSg (extractStridedSlice S17152x1024 ![0, 7272] p slices_S17152x9320_S17152x1024_0_7272))
      (Host.dotGeneral (φ₁ := .f32) (φ₂ := .f32) dot_S17152x2048_S2048x1024_S17152x1024_1_0_0_1_n_n none
        (concatenate S17152x2048 0 [⟨S16896x2048, ysp⟩, ⟨S256x2048, yss⟩] concatenates_S16896x2048_S256x2048_S17152x2048_d0) ws))
    (mulf (hSg (extractStridedSlice S17152x1024 ![0, 8296] p slices_S17152x9320_S17152x1024_0_8296))
      (Host.dotGeneral (φ₁ := .f32) (φ₂ := .f32) dot_S17152x1024_S1024x1024_S17152x1024_1_0_0_1_n_n none
        (concatenate S17152x1024 0 [⟨S16896x1024, yap⟩, ⟨S256x1024, yas⟩] concatenates_S16896x1024_S256x1024_S17152x1024_d0) wa))

/-- The residual before the second norm. -/
def hX1 (h g : Vec Ideal S17152x1024 .f32) (wo : Vec Ideal S1024x1024 .f32) : Vec Ideal S17152x1024 .f32 :=
  addf (F := Ideal) h (Host.dotGeneral (φ₁ := .f32) (φ₂ := .f32) dot_S17152x1024_S1024x1024_S17152x1024_1_0_0_1_n_n none g wo)

/-- The root-mean-square norm of every row. -/
def hNorm (x : Vec Ideal S17152x1024 .f32) (w : Vec Ideal S1024 .f32) : Vec Ideal S17152x1024 .f32 :=
  mulf (F := Ideal)
    (mulf x (broadcastInDim S17152x1024 ![0, 1] bcast_S17152x1_S17152x1024_0_1
      (Host.rsqrt (addf (Host.divf (broadcastInDim S17152x1 ![0] bcast_S17152_S17152x1_0
          (Host.reduceAdd (mulf x x) (constant S_ .f32 0x00000000#32) reducesTo_S17152x1024_S17152_d1 h_S_))
        (broadcastInDim S17152x1 ![] bcast_S_S17152x1 (constant S_ .f32 0x44800000#32)))
        (broadcastInDim S17152x1 ![] bcast_S_S17152x1 (constant S_ .f32 0x358637BD#32))))))
    (broadcastInDim S17152x1024 ![0, 1] bcast_S1x1024_S17152x1024_0_1 (broadcastInDim S1x1024 ![1] bcast_S1024_S1x1024_1 w))

/-- The rectified up-projection, squared. -/
def hUp (x : Vec Ideal S17152x1024 .f32) (wu : Vec Ideal S1024x4096 .f32) : Vec Ideal S17152x4096 .f32 :=
  mulf (F := Ideal)
    (maximumf (Host.dotGeneral (φ₁ := .f32) (φ₂ := .f32) dot_S17152x1024_S1024x4096_S17152x4096_1_0_0_1_n_n none x wu) (broadcastInDim S17152x4096 ![] bcast_S_S17152x4096 (constant S_ .f32 0x00000000#32)))
    (maximumf (Host.dotGeneral (φ₁ := .f32) (φ₂ := .f32) dot_S17152x1024_S1024x4096_S17152x4096_1_0_0_1_n_n none x wu) (broadcastInDim S17152x4096 ![] bcast_S_S17152x4096 (constant S_ .f32 0x00000000#32)))

/-- The residual after the squared-ReLU block. -/
def hMlp (x u : Vec Ideal S17152x1024 .f32) (wu : Vec Ideal S1024x4096 .f32) (wd : Vec Ideal S4096x1024 .f32) : Vec Ideal S17152x1024 .f32 :=
  addf (F := Ideal) x (Host.dotGeneral (φ₁ := .f32) (φ₂ := .f32) dot_S17152x4096_S4096x1024_S17152x1024_1_0_0_1_n_n none (hUp u wu) wd)

/-- The reference's gated sum of both projections, element by element. -/
theorem hMerged_at (ysp : Vec Ideal S16896x2048 .f32) (yss : Vec Ideal S256x2048 .f32) (yap : Vec Ideal S16896x1024 .f32) (yas : Vec Ideal S256x1024 .f32)
    (p : Vec Ideal S17152x9320 .f32) (ws : Vec Ideal S2048x1024 .f32) (wa : Vec Ideal S1024x1024 .f32) (r : Fin 17152) (b : Fin 1024) :
    hMerged ysp yss yap yas p ws wa (ix2 r b) = merged ysp yss yap yas p ws wa r b := by
  pointwise [hMerged, hSg, merged, rows, sg]

/-- The reference's rows after the first residual addition, element by element. -/
theorem hX1_at (h g : Vec Ideal S17152x1024 .f32) (wo : Vec Ideal S1024x1024 .f32) (r : Fin 17152) (b : Fin 1024) :
    hX1 h g wo (ix2 r b) = x1 (fun b => h (ix2 r b)) (fun b => g (ix2 r b)) (fun k b => wo (ix2 k b)) b := by
  pointwise [hX1, x1]

/-- The reference's norm, element by element. -/
theorem hNorm_at (x : Vec Ideal S17152x1024 .f32) (w : Vec Ideal S1024 .f32) (r : Fin 17152) (b : Fin 1024) :
    hNorm x w (ix2 r b) = normed (fun b => x (ix2 r b)) (fun k => w (ix1 k)) b := by
  pointwise [hNorm, normed]

/-- The reference's rows after the squared-relu layer, element by element. -/
theorem hMlp_at (x : Vec Ideal S17152x1024 .f32) (n : Vec Ideal S1024 .f32) (wu : Vec Ideal S1024x4096 .f32) (wd : Vec Ideal S4096x1024 .f32) (r : Fin 17152) (b : Fin 1024) :
    hMlp x (hNorm x n) wu wd (ix2 r b) = mlp (fun b => x (ix2 r b)) (fun k => n (ix1 k)) (fun k j => wu (ix2 k j)) (fun j b => wd (ix2 j b)) b := by
  pointwise [hMlp, hUp, hNorm, mlp, normed]

/-- The reference's result at an index. -/
theorem ref_at (m' : (ℓ : Loc nD τ sig) → Buf (Elt Ideal) ℓ) (c : Dev nD) (r : Fin 17152) (b : Fin 1024) :
    (Value.res_main_v53 m' c : Vec Ideal S17152x1024 .f32) (ix2 r b)
      = spec (m' (c.tc.loc main_arg0)) (m' (c.tc.loc main_arg1)) (m' (c.tc.loc main_arg2)) (m' (c.tc.loc main_arg3))
      (m' (c.tc.loc main_arg4)) (m' (c.tc.loc main_arg5)) (m' (c.tc.loc main_arg6)) (m' (c.tc.loc main_arg7)) (m' (c.tc.loc main_arg8))
      (m' (c.tc.loc main_arg9)) (m' (c.tc.loc main_arg10)) (m' (c.tc.loc main_arg11)) (m' (c.tc.loc main_arg12)) r b := by
  have e : Value.res_main_v53 m' c
      = (let x := hX1 (m' (c.tc.loc main_arg0)) (hMerged (m' (c.tc.loc main_arg1)) (m' (c.tc.loc main_arg2)) (m' (c.tc.loc main_arg3))
          (m' (c.tc.loc main_arg4)) (m' (c.tc.loc main_arg5)) (m' (c.tc.loc main_arg6)) (m' (c.tc.loc main_arg7))) (m' (c.tc.loc main_arg8))
        hNorm (hMlp x (hNorm x (m' (c.tc.loc main_arg9))) (m' (c.tc.loc main_arg10)) (m' (c.tc.loc main_arg11))) (m' (c.tc.loc main_arg12))) := by
    unfold Value.res_main_v53
    rfl
  rw [e]
  simp only [hNorm_at, hMlp_at, hX1_at, hMerged_at]
  rfl

/-- The reference's result, as one function of its arguments. -/
theorem ref_eq (m' : (ℓ : Loc nD τ sig) → Buf (Elt Ideal) ℓ) (c : Dev nD) :
    (Value.res_main_v53 m' c : Vec Ideal S17152x1024 .f32)
      = fun i => spec (m' (c.tc.loc main_arg0)) (m' (c.tc.loc main_arg1)) (m' (c.tc.loc main_arg2)) (m' (c.tc.loc main_arg3))
      (m' (c.tc.loc main_arg4)) (m' (c.tc.loc main_arg5)) (m' (c.tc.loc main_arg6)) (m' (c.tc.loc main_arg7)) (m' (c.tc.loc main_arg8))
      (m' (c.tc.loc main_arg9)) (m' (c.tc.loc main_arg10)) (m' (c.tc.loc main_arg11)) (m' (c.tc.loc main_arg12)) (i 0) (i 1) :=
  funext fun i => (congrArg (Value.res_main_v53 m' c) (eq_ix2 (n0 := 17152) (n1 := 1024) i)).trans (ref_at m' c (i 0) (i 1))

end Cert.MixRef

end
-- ==== Proof.Ssd.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.Mix

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen

variable (m : (ℓ : Loc nD τ sig) → Buf (Elt Ideal) ℓ)

/-! Stages of the kernel's chunk as whole vectors, one for every head `q` or group `g`, and what each holds at an index. -/

/-- A head's column lies within the 128 columns. -/
theorem sl_col (q : Fin 32) : S128x128.Slices ![0, 64 + q.val] S128x1 := by revert q; decide
/-- A head's row lies within the 128 rows. -/
theorem sl_row (q : Fin 32) : S128x128.Slices ![64 + q.val, 0] S1x128 := by revert q; decide
/-- A head's 64 channels lie within the 2048. -/
theorem sl_hd (q : Fin 32) : S128x2048.Slices ![0, 64 * q.val] S128x64 := by revert q; decide
/-- A group's B columns lie within the 1024. -/
theorem sl_b (g : Fin 4) : S128x1024.Slices ![0, 128 * g.val] S128x128 := by revert g; decide
/-- A group's C columns lie within the 1024. -/
theorem sl_c (g : Fin 4) : S128x1024.Slices ![0, 512 + 128 * g.val] S128x128 := by revert g; decide
/-- A group's 512 channels lie within the 2048. -/
theorem sl_g (g : Fin 4) : S128x2048.Slices ![0, 512 * g.val] S128x512 := by revert g; decide
/-- A group's 512 channels lie within one row of 2048. -/
theorem sl_g1 (g : Fin 4) : S1x2048.Slices ![0, 512 * g.val] S1x512 := by revert g; decide

/-- Head `e` of group `g`. -/
def hq (g : Fin 4) (e : Fin 8) : Fin 32 := ⟨8 * g.val + e.val, by omega⟩

/-- One head's part within the chunk: the decayed scores against the head's weighted inputs. -/
def hd (q : Fin 32) (cz : IVec S128x128 1) (ac at_ : FVec Ideal S128x128 .f32) (xd : FVec Ideal S128x2048 .f32)
    (cb : FVec Ideal S128x128 .f32) : FVec Ideal S128x64 .f32 :=
  matmul dot_S128x128_S128x64_S128x64_1_0_0_1_n_n none
    (truncf .bf16 (mulf cb (exp (select cz (subf (broadcastTo S128x128 (extractStridedSlice S128x1 ![0, 64 + q.val] ac (sl_col q)) broadcasts_S128x1_S128x128)
      (broadcastTo S128x128 (extractStridedSlice S1x128 ![64 + q.val, 0] at_ (sl_row q)) broadcasts_S1x128_S128x128))
      (broadcast S128x128 (Scalar.ofBits .f32 0xFF800000#32))))) bitsLt_bf16_f32)
    (truncf .bf16 (extractStridedSlice S128x64 ![0, 64 * q.val] xd (sl_hd q)) bitsLt_bf16_f32)
    (constant S128x64 .f32 0x00000000#32)

/-- A head's part within the chunk at row `i`, lane `p`: a sum over the rows `j`. -/
theorem hd_apply (q : Fin 32) (cz : IVec S128x128 1) (ac at_ : FVec Ideal S128x128 .f32) (xd : FVec Ideal S128x2048 .f32)
    (cb : FVec Ideal S128x128 .f32) (i : Fin 128) (p : Fin 64) :
    hd q cz ac at_ xd cb (ix2 i p) = ∑ j : Fin 128, cb (ix2 i j) * Ideal.exp (Scalar.select (cz (ix2 i j)) (ac (ix2 i ⟨64 + q.val, by omega⟩)
      - at_ (ix2 ⟨64 + q.val, by omega⟩ j)) (Ideal.ofBits .f32 0xFF800000#32)) * xd (ix2 j ⟨64 * q.val + p.val, by omega⟩) := by
  pointwise [hd]

/-- The input projection of group `g`. -/
def bG (g : Fin 4) (bc : FVec Ideal S128x1024 .f32) : FVec Ideal S128x128 .f32 :=
  extractStridedSlice S128x128 ![0, 128 * g.val] bc (sl_b g)

/-- The output projection of group `g`. -/
def cG (g : Fin 4) (bc : FVec Ideal S128x1024 .f32) : FVec Ideal S128x128 .f32 :=
  extractStridedSlice S128x128 ![0, 512 + 128 * g.val] bc (sl_c g)

/-- The scores of group `g`. -/
def cbm (g : Fin 4) (bc : FVec Ideal S128x1024 .f32) : FVec Ideal S128x128 .f32 :=
  matmul dot_S128x128_S128x128_S128x128_1_1_0_0_n_n none (truncf .bf16 (cG g bc) bitsLt_bf16_f32) (truncf .bf16 (bG g bc) bitsLt_bf16_f32)
    (constant S128x128 .f32 0x00000000#32)

/-- A score is the inner product of an output projection's row and an input projection's row. -/
theorem cbm_apply (g : Fin 4) (bc : FVec Ideal S128x1024 .f32) (i j : Fin 128) :
    cbm g bc (ix2 i j) = ∑ n : Fin 128, bc (ix2 i ⟨512 + 128 * g.val + n.val, by omega⟩) * bc (ix2 j ⟨128 * g.val + n.val, by omega⟩) := by
  pointwise [cbm, cG, bG]

/-- The entry state's part of group `g`'s output. -/
def inter (g : Fin 4) (bc : FVec Ideal S128x1024 .f32) (ea : FVec Ideal S128x2048 .f32) (H : FVec Ideal S1x128x512 .f32) : FVec Ideal S128x512 .f32 :=
  mulf (matmul dot_S128x128_S128x512_S128x512_1_0_0_1_n_n none (truncf .bf16 (cG g bc) bitsLt_bf16_f32)
    (truncf .bf16 (shapeCast S128x512 H shapeCasts_S1x128x512_S128x512) bitsLt_bf16_f32) (constant S128x512 .f32 0x00000000#32))
    (extractStridedSlice S128x512 ![0, 512 * g.val] ea (sl_g g))

/-- The entry state's part at row `i`, lane `k`. -/
theorem inter_apply (g : Fin 4) (bc : FVec Ideal S128x1024 .f32) (ea : FVec Ideal S128x2048 .f32) (H : FVec Ideal S1x128x512 .f32) (i : Fin 128) (k : Fin 512) :
    inter g bc ea H (ix2 i k) = (∑ n : Fin 128, bc (ix2 i ⟨512 + 128 * g.val + n.val, by omega⟩) * H (ix3 0 n k)) * ea (ix2 i ⟨512 * g.val + k.val, by omega⟩) := by
  pointwise [inter, cG]

/-- Eight heads of 64 channels join to a group of 512. -/
theorem cat_hd : Shape.Concatenates ((List.ofFn fun _ : Fin 8 => S128x64)) S128x512 1 := by decide

/-- Group `g`'s output before the skip and the gate. -/
def grp (g : Fin 4) (cz : IVec S128x128 1) (ac at_ : FVec Ideal S128x128 .f32) (xd : FVec Ideal S128x2048 .f32) (bc : FVec Ideal S128x1024 .f32)
    (ea : FVec Ideal S128x2048 .f32) (H : FVec Ideal S1x128x512 .f32) : FVec Ideal S128x512 .f32 :=
  addf (inter g bc ea H) (concatenate S128x512 1 (List.ofFn fun e : Fin 8 => (⟨S128x64, hd (hq g e) cz ac at_ xd (cbm g bc)⟩ : (s : Shape) × (s.Idx → EReal))) cat_hd)

/-- A group's output at lane `64 e + p`: the entry state's part plus head `e`'s. -/
theorem grp_apply (g : Fin 4) (cz : IVec S128x128 1) (ac at_ : FVec Ideal S128x128 .f32) (xd : FVec Ideal S128x2048 .f32) (bc : FVec Ideal S128x1024 .f32)
    (ea : FVec Ideal S128x2048 .f32) (H : FVec Ideal S1x128x512 .f32) (i : Fin 128) (e : Fin 8) (p : Fin 64) :
    grp g cz ac at_ xd bc ea H (ix2 i ⟨64 * e.val + p.val, by omega⟩)
      = inter g bc ea H (ix2 i ⟨64 * e.val + p.val, by omega⟩) + hd (hq g e) cz ac at_ xd (cbm g bc) (ix2 i p) := by
  unfold grp
  refine congrArg (inter g bc ea H (ix2 i ⟨64 * e.val + p.val, by omega⟩) + ·) ?_
  refine concatenate_ofFn_apply (t := S128x512) (s₁ := S128x64) 1 (fun e : Fin 8 => hd (hq g e) cz ac at_ xd (cbm g bc)) cat_hd rfl 64 rfl
    _ e ?_ (ix2 i p) ?_ ?_
  · show (64 * e.val + p.val) / 64 = e.val
    omega
  · show p.val = (64 * e.val + p.val) % 64
    omega
  · intro b hb
    fin_cases b
    · rfl
    · exact absurd rfl hb

/-- Group `g`'s state after the chunk. -/
def nst (g : Fin 4) (xw : FVec Ideal S128x2048 .f32) (el : FVec Ideal S1x2048 .f32) (bc : FVec Ideal S128x1024 .f32) (H : FVec Ideal S1x128x512 .f32) :
    FVec Ideal S1x128x512 .f32 :=
  shapeCast S1x128x512 (addf (mulf (shapeCast S128x512 H shapeCasts_S1x128x512_S128x512)
      (broadcastTo S128x512 (extractStridedSlice S1x512 ![0, 512 * g.val] el (sl_g1 g)) broadcasts_S1x512_S128x512))
    (matmul dot_S128x128_S128x512_S128x512_1_0_0_1_n_n none (truncf .bf16 (transpose S128x128 [1, 0] (bG g bc) transposes_S128x128_p1_0_S128x128) bitsLt_bf16_f32)
      (truncf .bf16 (extractStridedSlice S128x512 ![0, 512 * g.val] xw (sl_g g)) bitsLt_bf16_f32) (constant S128x512 .f32 0x00000000#32)))
    shapeCasts_S128x512_S1x128x512

/-- The state after the chunk at state row `n`, lane `k`. -/
theorem nst_apply (g : Fin 4) (xw : FVec Ideal S128x2048 .f32) (el : FVec Ideal S1x2048 .f32) (bc : FVec Ideal S128x1024 .f32) (H : FVec Ideal S1x128x512 .f32)
    (n : Fin 128) (k : Fin 512) :
    nst g xw el bc H (ix3 0 n k) = H (ix3 0 n k) * el (ix2 0 ⟨512 * g.val + k.val, by omega⟩)
      + ∑ j : Fin 128, bc (ix2 j ⟨128 * g.val + n.val, by omega⟩) * xw (ix2 j ⟨512 * g.val + k.val, by omega⟩) := by
  pointwise [nst, bG]

/-- Four groups of 512 channels join to 2048. -/
theorem cat_g : Shape.Concatenates ((List.ofFn fun _ : Fin 4 => S128x512)) S128x2048 1 := by decide

/-- All groups' outputs with the skip, gated. -/
def gated (xs z : FVec Ideal S128x2048 .f32) (G : Fin 4 → FVec Ideal S128x512 .f32) (dsk : FVec Ideal S1x2048 .f32) : FVec Ideal S128x2048 .f32 :=
  mulf (addf (concatenate S128x2048 1 (List.ofFn fun g : Fin 4 => (⟨S128x512, G g⟩ : (s : Shape) × (s.Idx → EReal))) cat_g)
      (mulf xs (broadcastTo S128x2048 (shapeCast S1x2048 dsk shapeCasts_S1x2048_S1x2048) broadcasts_S1x2048_S128x2048)))
    (mulf z (addf (mulf (broadcast S128x2048 (Scalar.ofBits .f32 0x3F000000#32)) (tanh (mulf (broadcast S128x2048 (Scalar.ofBits .f32 0x3F000000#32)) z)))
      (broadcast S128x2048 (Scalar.ofBits .f32 0x3F000000#32))))

/-- The groups' outputs side by side, at lane `512 g + k`. -/
theorem cat_apply (G : Fin 4 → FVec Ideal S128x512 .f32) (i : Fin 128) (g : Fin 4) (k : Fin 512) :
    concatenate S128x2048 1 (List.ofFn fun g : Fin 4 => (⟨S128x512, G g⟩ : (s : Shape) × (s.Idx → EReal))) cat_g (ix2 i ⟨512 * g.val + k.val, by omega⟩) = G g (ix2 i k) := by
  refine concatenate_ofFn_apply (t := S128x2048) (s₁ := S128x512) 1 G cat_g rfl 512 rfl _ g ?_ (ix2 i k) ?_ ?_
  · show (512 * g.val + k.val) / 512 = g.val
    omega
  · show k.val = (512 * g.val + k.val) % 512
    omega
  · intro b hb
    fin_cases b
    · rfl
    · exact absurd rfl hb

/-- The gated output at lane `512 g + k`. -/
theorem gated_apply (xs z : FVec Ideal S128x2048 .f32) (G : Fin 4 → FVec Ideal S128x512 .f32) (dsk : FVec Ideal S1x2048 .f32) (i : Fin 128) (g : Fin 4) (k : Fin 512) :
    gated xs z G dsk (ix2 i ⟨512 * g.val + k.val, by omega⟩)
      = (G g (ix2 i k) + xs (ix2 i ⟨512 * g.val + k.val, by omega⟩) * dsk (ix2 0 ⟨512 * g.val + k.val, by omega⟩))
        * (z (ix2 i ⟨512 * g.val + k.val, by omega⟩) * Mix.sg (z (ix2 i ⟨512 * g.val + k.val, by omega⟩))) := by
  rw [← cat_apply G i g k]
  generalize hq : (⟨512 * g.val + k.val, by omega⟩ : Fin 2048) = q
  have h : ∀ C : FVec Ideal S128x2048 .f32, (mulf (addf C
      (mulf xs (broadcastTo S128x2048 (shapeCast S1x2048 dsk shapeCasts_S1x2048_S1x2048) broadcasts_S1x2048_S128x2048)))
    (mulf z (addf (mulf (broadcast S128x2048 (Scalar.ofBits .f32 0x3F000000#32)) (tanh (mulf (broadcast S128x2048 (Scalar.ofBits .f32 0x3F000000#32)) z)))
      (broadcast S128x2048 (Scalar.ofBits .f32 0x3F000000#32))))) (ix2 i q) = (C (ix2 i q) + xs (ix2 i q) * dsk (ix2 0 q)) * (z (ix2 i q) * Mix.sg (z (ix2 i q))) := by
    intro C
    pointwise [← Mix.sg_tanh]
  exact h _

/-- Group `g` of the gated output, normalised. -/
def ng (g : Fin 4) (v : FVec Ideal S128x2048 .f32) : FVec Ideal S128x512 .f32 :=
  mulf (extractStridedSlice S128x512 ![0, 512 * g.val] v (sl_g g)) (broadcastTo S128x512 (rsqrt (addf (divf (shapeCast S128x1
      (multiReduction .add [1] S128 (mulf (extractStridedSlice S128x512 ![0, 512 * g.val] v (sl_g g)) (extractStridedSlice S128x512 ![0, 512 * g.val] v (sl_g g)))
        0x00000000#32 reduces_S128x512_S128 (.inl rfl) rfl) shapeCasts_S128_S128x1) (broadcast S128x1 (Scalar.ofBits .f32 0x44000000#32)))
      (broadcast S128x1 (Scalar.ofBits .f32 0x358637BD#32)))) broadcasts_S128x1_S128x512)

/-- A normalised group at row `i`, lane `k`. -/
theorem ng_apply (g : Fin 4) (v : FVec Ideal S128x2048 .f32) (i : Fin 128) (k : Fin 512) :
    ng g v (ix2 i k) = v (ix2 i ⟨512 * g.val + k.val, by omega⟩)
        * Ideal.rsqrt (Ideal.div (∑ l : Fin 512, v (ix2 i ⟨512 * g.val + l.val, by omega⟩) * v (ix2 i ⟨512 * g.val + l.val, by omega⟩))
          (Ideal.ofBits .f32 0x44000000#32) + Ideal.ofBits .f32 0x358637BD#32) := by
  pointwise [ng]

/-- The normalised groups side by side. -/
theorem pay163_eq (v : FVec Ideal S128x2048 .f32) :
    k0_pay163 v = concatenate S128x2048 1 (List.ofFn fun g : Fin 4 => (⟨S128x512, ng g v⟩ : (s : Shape) × (s.Idx → EReal))) cat_g := rfl

/-- The stored rows: the normalised groups times the norm's weights. -/
theorem pay1_apply (u : FVec Ideal S128x2048 .f32) (w : Vec Ideal S1x2048 .f32) (i : Fin 8) (q : Fin 2048) :
    k0_pay1 u w (ix2 i q) = u (ix2 ⟨i.val, by omega⟩ q) * w (ix2 0 q) := by
  pointwise [k0_pay1]

/-- The stored output at lane `512 g + k`. -/
theorem norm_apply (v : FVec Ideal S128x2048 .f32) (w : Vec Ideal S1x2048 .f32) (i : Fin 8) (g : Fin 4) (k : Fin 512) :
    k0_pay1 (k0_pay163 v) w (ix2 i ⟨512 * g.val + k.val, by omega⟩)
      = ng g v (ix2 ⟨i.val, by omega⟩ k) * w (ix2 0 ⟨512 * g.val + k.val, by omega⟩) := by
  refine (pay1_apply _ w i _).trans ?_
  rw [pay163_eq]
  exact congrArg (· * _) (cat_apply (fun g => ng g v) _ g k)

/-! The kernel's own stages are these. -/

/-- The kernel's first group is the group's output at 0. -/
theorem grp0_eq (cz : IVec S128x128 1) (ac at_ : FVec Ideal S128x128 .f32) (xs : FVec Ideal S128x2048 .f32) (bc : FVec Ideal S128x1024 .f32) (ex : FVec Ideal S768x2048 .f32)
    (e1 e2 : FVec Ideal S128x2048 .f32) (H : FVec Ideal S1x128x512 .f32) :
    k0_pay117 cz ac at_ (k0_pay99 xs ex e1 e2) (k0_pay105 bc) (k0_pay107 bc ex H) (k0_pay108 xs bc cz ac at_ ex e1 e2)
      (k0_pay111 (k0_pay109 xs ex e1 e2) (k0_pay110 bc cz ac at_)) (k0_pay112 cz ac at_ (k0_pay99 xs ex e1 e2) (k0_pay105 bc))
      (k0_pay113 cz ac at_ (k0_pay99 xs ex e1 e2) (k0_pay105 bc)) (k0_pay114 cz ac at_ (k0_pay99 xs ex e1 e2) (k0_pay105 bc))
      (k0_pay115 (k0_pay99 xs ex e1 e2)) (k0_pay116 cz ac at_ (k0_pay105 bc))
      = grp 0 cz ac at_ (k0_pay99 xs ex e1 e2) bc (k0_pay101 ex) H := rfl

/-- The kernel's second group is the group's output at 1. -/
theorem grp1_eq (cz : IVec S128x128 1) (ac at_ : FVec Ideal S128x128 .f32) (xd : FVec Ideal S128x2048 .f32) (bc : FVec Ideal S128x1024 .f32) (ea : FVec Ideal S128x2048 .f32)
    (H : FVec Ideal S1x128x512 .f32) :
    k0_pay133 cz xd (k0_pay121 bc) (k0_pay123 ea (k0_pay120 bc) H) (k0_pay124 cz ac at_ xd (k0_pay121 bc)) (k0_pay125 cz ac at_ xd (k0_pay121 bc))
      (k0_pay126 cz ac at_ xd (k0_pay121 bc)) (k0_pay128 cz xd (k0_pay121 bc) (k0_pay127 ac at_) (FloatOps.ofBits FTy.f32 4286578688#32))
      (k0_pay129 cz ac at_ xd (k0_pay121 bc)) (k0_pay130 cz ac at_ xd (k0_pay121 bc)) (k0_pay131 cz ac at_ xd (k0_pay121 bc)) (k0_pay132 ac at_)
      (FloatOps.ofBits FTy.f32 4286578688#32)
      = grp 1 cz ac at_ xd bc ea H := rfl

/-- The kernel's third group is the group's output at 2. -/
theorem grp2_eq (cz : IVec S128x128 1) (ac at_ : FVec Ideal S128x128 .f32) (xd : FVec Ideal S128x2048 .f32) (bc : FVec Ideal S128x1024 .f32) (ea : FVec Ideal S128x2048 .f32)
    (H : FVec Ideal S1x128x512 .f32) :
    k0_pay145 cz ac at_ xd (k0_pay137 bc) (k0_pay139 bc ea H) (k0_pay140 bc cz ac at_ xd) (k0_pay141 cz ac at_ xd (k0_pay137 bc))
      (k0_pay142 cz ac at_ xd (k0_pay137 bc)) (k0_pay143 cz ac at_ xd (k0_pay137 bc)) (k0_pay144 cz ac at_ xd (k0_pay137 bc))
      = grp 2 cz ac at_ xd bc ea H := rfl

/-- The kernel's gated output is the one of the four groups joined. -/
theorem gated_eq (cz : IVec S128x128 1) (ac at_ : FVec Ideal S128x128 .f32) (xs z xd : FVec Ideal S128x2048 .f32) (bc : FVec Ideal S128x1024 .f32) (ea : FVec Ideal S128x2048 .f32)
    (G0 G1 G2 : FVec Ideal S128x512 .f32) (H : FVec Ideal S1x128x512 .f32) (dsk : Vec Ideal S1x2048 .f32) :
    k0_pay162 xs z cz ac at_ xd G0 G1 G2 (k0_pay150 bc) (k0_pay152 bc ea H) (k0_pay153 bc cz ac at_ xd) (k0_pay154 bc cz ac at_ xd)
      (k0_pay156 xd (k0_pay150 bc) (k0_pay155 cz ac at_)) (k0_pay157 cz ac at_ xd (k0_pay150 bc)) (k0_pay158 cz ac at_ xd (k0_pay150 bc))
      (k0_pay159 cz ac at_ xd (k0_pay150 bc)) (k0_pay160 cz ac at_) dsk
      = gated xs z (![G0, G1, G2, grp 3 cz ac at_ xd bc ea H]) dsk := rfl

/-- The kernel's new state of the first group is the group's new state at 0. -/
theorem nst0_eq (xw : FVec Ideal S128x2048 .f32) (el : FVec Ideal S1x2048 .f32) (bc : FVec Ideal S128x1024 .f32) (H : FVec Ideal S1x128x512 .f32) :
    k0_pay118 xw el (k0_pay103 bc) (k0_pay106 H) = nst 0 xw el bc H := rfl

/-- The kernel's new state of the second group is the group's new state at 1. -/
theorem nst1_eq (xw : FVec Ideal S128x2048 .f32) (el : FVec Ideal S1x2048 .f32) (bc : FVec Ideal S128x1024 .f32) (H : FVec Ideal S1x128x512 .f32) :
    k0_pay134 xw el (k0_pay119 bc) (k0_pay122 H) = nst 1 xw el bc H := rfl

/-- The kernel's new state of the third group is the group's new state at 2. -/
theorem nst2_eq (xw : FVec Ideal S128x2048 .f32) (el : FVec Ideal S1x2048 .f32) (bc : FVec Ideal S128x1024 .f32) (H : FVec Ideal S1x128x512 .f32) :
    k0_pay147 (k0_pay146 xw el (k0_pay135 bc) (k0_pay138 H)) = nst 2 xw el bc H := rfl

/-- The kernel's new state of the fourth group is the group's new state at 3. -/
theorem nst3_eq (xw : FVec Ideal S128x2048 .f32) (el : FVec Ideal S1x2048 .f32) (bc : FVec Ideal S128x1024 .f32) (H : FVec Ideal S1x128x512 .f32) :
    k0_pay161 xw el (k0_pay148 bc) (k0_pay151 H) = nst 3 xw el bc H := rfl

end Cert.Ssd
-- ==== Proof.SsdB.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.Ssd

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen

variable (m : (ℓ : Loc nD τ sig) → Buf (Elt Ideal) ℓ)

/-- The exact value of three pieces added: the piece itself wherever it is not the top. -/
theorem pieces (x : EReal) (hx : x ≠ ⊤) : x + (x - x) + (x - x - (x - x)) = x := by
  induction x with
  | bot => rfl
  | top => exact absurd rfl hx
  | coe r => norm_cast; simp

/-- A sum over a chunk's 128 rows whose rows from the eighth on hold zero is the sum over the eight rows. -/
theorem sum_low (f : Fin 128 → EReal) (h : ∀ x : Fin 128, 8 ≤ x.val → f x = 0) : ∑ x, f x = ∑ j : Fin 8, f ⟨j.val, by omega⟩ := by
  have e := Fin.sum_univ_add (a := 8) (b := 120) f
  refine e.trans ?_
  rw [Finset.sum_eq_zero (s := Finset.univ) (f := fun i : Fin 120 => f (Fin.natAdd 8 i)) (fun i _ => h _ (by simp)), add_zero]
  rfl

/-- The kernel's row test: the chunk's first eight rows. -/
theorem v_test : ∀ r : Fin 128, IntOp.cmpi .slt (BitVec.ofNat 32 r.val) (Scalar.minsi (Scalar.subi 8#32 (Scalar.muli 0#32 128#32)) 8#32)
    = if r.val < 8 then 1#1 else 0#1 := by decide +kernel

/-- The kernel's causal test. -/
theorem cz_test : ∀ i j : Fin 128, IntOp.cmpi .sge (BitVec.ofNat 32 i.val) (BitVec.ofNat 32 j.val) = if j.val ≤ i.val then 1#1 else 0#1 := by
  decide +kernel

/-- The first of two values where `j` does not lie after `i`, else the second. -/
def upto {α : Type} (i j : Nat) (x y : α) : α := if j ≤ i then x else y

/-- A choice by the causal test. -/
theorem cz_sel {α : Type} (i j : Fin 128) (x y : α) : Scalar.select (k0_pay91 (ix2 i j)) x y = upto i.val j.val x y := by
  have e : k0_pay91 (ix2 i j) = if j.val ≤ i.val then 1#1 else 0#1 := by
    rw [← cz_test i j]
    pointwise [k0_pay91]
  rw [e]
  unfold upto
  by_cases h : j.val ≤ i.val
  · rw [if_pos h, if_pos h]; rfl
  · rw [if_neg h, if_neg h]; rfl

/-- The logarithm of one plus the exponential, as the kernel computes it. -/
def sp (x : EReal) : EReal := max x 0 + Ideal.log1p (Ideal.exp (0 - max x (-x)))

/-- A choice by the row test. -/
theorem v_sel {α : Type} (r l : Fin 128) (x y : α) : Scalar.select (k0_pay87 0#32 (ix2 r l)) x y = if r.val < 8 then x else y := by
  have e : k0_pay87 0#32 (ix2 r l) = if r.val < 8 then 1#1 else 0#1 := by
    rw [← v_test r]
    pointwise [k0_pay87]
  rw [e]
  by_cases h : r.val < 8
  · rw [if_pos h, if_pos h]; rfl
  · rw [if_neg h, if_neg h]; rfl

/-- The step sizes of the chunk. -/
def Dm (sm : Vec Ideal S8x128 .f32) (b : Vec Ideal S1x128 .f32) : FVec Ideal S128x128 .f32 :=
  k0_pay90 (F := Ideal) (k0_pay87 0#32) (k0_pay88 sm) k0_pay89 b

/-- The step size of row `r` below eight. -/
theorem Dm_low (sm : Vec Ideal S8x128 .f32) (b : Vec Ideal S1x128 .f32) (r l : Fin 128) (h : r.val < 8) :
    Dm sm b (ix2 r l) = sp (sm (ix2 ⟨r.val, h⟩ l) + b (ix2 0 l)) := by
  pointwise [Dm, k0_pay90, k0_pay88, k0_pay89]
  rw [v_sel, if_pos h]
  simp only [dif_pos h]
  rfl

/-- The rows from the eighth on have step size zero. -/
theorem Dm_high (sm : Vec Ideal S8x128 .f32) (b : Vec Ideal S1x128 .f32) (r l : Fin 128) (h : 8 ≤ r.val) :
    Dm sm b (ix2 r l) = 0 := by
  pointwise [Dm, k0_pay90, k0_pay88, k0_pay89]
  rw [v_sel, if_neg (by omega)]

/-- The running sum of the step sizes times the rate. -/
def acs (dt : Fin 8 → EReal) (a : EReal) (i : Fin 8) : EReal := ∑ j : Fin 8, upto i.val j.val (dt j * a) 0

/-- The running sums of the chunk. -/
def Am (sm : Vec Ideal S8x128 .f32) (b a : Vec Ideal S1x128 .f32) : FVec Ideal S128x128 .f32 :=
  k0_pay92 (F := Ideal) (k0_pay87 0#32) (k0_pay88 sm) k0_pay89 b a

/-- A running sum is a sum over the rows up to its own. -/
theorem Am_apply (sm : Vec Ideal S8x128 .f32) (b a : Vec Ideal S1x128 .f32) (i l : Fin 128) :
    Am sm b a (ix2 i l) = ∑ j : Fin 8, upto i.val j.val (sp (sm (ix2 j l) + b (ix2 0 l)) * a (ix2 0 l)) 0 := by
  have e : Am sm b a (ix2 i l) = ∑ x : Fin 128, upto i.val x.val (Dm sm b (ix2 x l) * a (ix2 0 l)) 0 := by
    pointwise [Am, k0_pay92]
    simp only [cz_sel]
    rfl
  rw [e, sum_low]
  · refine Finset.sum_congr rfl fun j _ => ?_
    rw [Dm_low sm b _ l (by exact j.isLt)]
  · intro x hx
    rw [Dm_high sm b x l hx, zero_mul]
    unfold upto
    split <;> rfl

/-- A running sum of the eight rows. -/
theorem Am_low (sm : Vec Ideal S8x128 .f32) (b a : Vec Ideal S1x128 .f32) (i : Fin 8) (l : Fin 128) :
    Am sm b a (ix2 ⟨i.val, by omega⟩ l) = acs (fun j => sp (sm (ix2 j l) + b (ix2 0 l))) (a (ix2 0 l)) i :=
  Am_apply sm b a _ l

/-- The chunk's last running sum is the eighth row's. -/
theorem Am_last (sm : Vec Ideal S8x128 .f32) (b a : Vec Ideal S1x128 .f32) (l : Fin 128) :
    Am sm b a (ix2 127 l) = acs (fun j => sp (sm (ix2 j l) + b (ix2 0 l))) (a (ix2 0 l)) 7 := by
  rw [Am_apply]
  refine Finset.sum_congr rfl fun j _ => ?_
  unfold upto
  rw [if_pos (show j.val ≤ (127 : Fin 128).val by have := j.isLt; show j.val ≤ 127; omega), if_pos (show j.val ≤ (7 : Fin 8).val by have := j.isLt; show j.val ≤ 7; omega)]

/-- The six parts the kernel spreads over the heads' lanes: three of the step sizes, three of the running sums. -/
def pc (D A : FVec Ideal S128x128 .f32) (s : Fin 6) : FVec Ideal S128x128 .bf16 :=
  truncf .bf16 (![D, subf D D, subf (subf D D) (subf D D), A, subf A A, subf (subf A A) (subf A A)] s) bitsLt_bf16_f32

/-- Six squares of 128 rows join to 768 rows. -/
theorem cat6 : Shape.Concatenates ((List.ofFn fun _ : Fin 6 => S128x128)) S768x128 0 := by decide

/-- The spread of a stack of rows by a matrix of the heads' lanes. -/
def spread (V : FVec Ideal S768x128 .bf16) (E : Vec Ideal S128x2048 .bf16) : FVec Ideal S768x2048 .f32 :=
  matmul (φ₂ := .bf16) dot_S768x128_S128x2048_S768x2048_1_0_0_1_n_n none V (shapeCast S128x2048 E shapeCasts_S128x2048_S128x2048) (constant S768x2048 .f32 0x00000000#32)

/-- The product that spreads heads over channels, element by element. -/
theorem spread_apply (V : FVec Ideal S768x128 .bf16) (E : Vec Ideal S128x2048 .bf16) (r : Fin 768) (q : Fin 2048) :
    spread V E (ix2 r q) = ∑ l : Fin 128, V (ix2 r l) * E (ix2 l q) := by
  pointwise [spread]

/-- The kernel's spread parts. -/
def Ex (sm : Vec Ideal S8x128 .f32) (b a : Vec Ideal S1x128 .f32) (E : Vec Ideal S128x2048 .bf16) : FVec Ideal S768x2048 .f32 :=
  k0_pay94 (F := Ideal) (k0_pay87 0#32) (k0_pay88 sm) k0_pay89 b a E

/-- The kernel's spread parts are the spread of the six parts joined. -/
theorem Ex_eq (sm : Vec Ideal S8x128 .f32) (b a : Vec Ideal S1x128 .f32) (E : Vec Ideal S128x2048 .bf16) :
    Ex sm b a E = spread (concatenate S768x128 0 (List.ofFn fun s : Fin 6 => (⟨S128x128, pc (Dm sm b) (Am sm b a) s⟩ : (s : Shape) × (s.Idx → EReal))) cat6) E := rfl

/-- The matrix that copies lane `64 + h` to head `h`'s 64 lanes. -/
def Spreads (E : Vec Ideal S128x2048 .bf16) : Prop :=
  ∀ (l : Fin 128) (q : Fin 2048), E (ix2 l q) = if l.val = 64 + q.val / 64 then 1 else 0

/-- A spread part at row `i` and lane `q`: the part at row `i` and the head's lane. -/
theorem Ex_apply (sm : Vec Ideal S8x128 .f32) (b a : Vec Ideal S1x128 .f32) (E : Vec Ideal S128x2048 .bf16) (hE : Spreads E)
    (s : Fin 6) (i : Fin 128) (q : Fin 2048) :
    Ex sm b a E (ix2 ⟨128 * s.val + i.val, by omega⟩ q) = pc (Dm sm b) (Am sm b a) s (ix2 i ⟨64 + q.val / 64, by omega⟩) := by
  rw [Ex_eq, spread_apply]
  have e : ∀ l : Fin 128, concatenate S768x128 0 (List.ofFn fun s : Fin 6 => (⟨S128x128, pc (Dm sm b) (Am sm b a) s⟩ : (s : Shape) × (s.Idx → EReal))) cat6
      (ix2 ⟨128 * s.val + i.val, by omega⟩ l) = pc (Dm sm b) (Am sm b a) s (ix2 i l) := by
    intro l
    refine concatenate_ofFn_apply (t := S768x128) (s₁ := S128x128) 0 (pc (Dm sm b) (Am sm b a)) cat6 rfl 128 rfl _ s ?_ (ix2 i l) ?_ ?_
    · show (128 * s.val + i.val) / 128 = s.val
      omega
    · show i.val = (128 * s.val + i.val) % 128
      omega
    · intro c hc
      fin_cases c
      · exact absurd rfl hc
      · rfl
  rw [Finset.sum_eq_single (⟨64 + q.val / 64, by omega⟩ : Fin 128)]
  · rw [e, hE, if_pos rfl, mul_one]
  · intro l _ hl
    rw [hE, if_neg (fun h => hl (Fin.ext h)), mul_zero]
  · intro h
    exact absurd (Finset.mem_univ _) h

/-- The spread step sizes at row `i`, lane `q`. -/
theorem xd_apply (xs : FVec Ideal S128x2048 .f32) (sm : Vec Ideal S8x128 .f32) (b a : Vec Ideal S1x128 .f32) (E : Vec Ideal S128x2048 .bf16) (hE : Spreads E)
    (i : Fin 128) (q : Fin 2048) (hD : Dm sm b (ix2 i ⟨64 + q.val / 64, by omega⟩) ≠ ⊤) :
    k0_pay99 xs (Ex sm b a E) (k0_pay95 (F := Ideal) (k0_pay87 0#32) (k0_pay88 sm) k0_pay89 b a E) (k0_pay96 (F := Ideal) (k0_pay87 0#32) (k0_pay88 sm) k0_pay89 b a E) (ix2 i q)
      = xs (ix2 i q) * Dm sm b (ix2 i ⟨64 + q.val / 64, by omega⟩) := by
  have e : k0_pay99 xs (Ex sm b a E) (k0_pay95 (F := Ideal) (k0_pay87 0#32) (k0_pay88 sm) k0_pay89 b a E) (k0_pay96 (F := Ideal) (k0_pay87 0#32) (k0_pay88 sm) k0_pay89 b a E) (ix2 i q)
      = xs (ix2 i q) * (Ex sm b a E (ix2 ⟨128 * (0 : Fin 6).val + i.val, by omega⟩ q) + Ex sm b a E (ix2 ⟨128 * (1 : Fin 6).val + i.val, by omega⟩ q) + Ex sm b a E (ix2 ⟨128 * (2 : Fin 6).val + i.val, by omega⟩ q)) := by
    pointwise [k0_pay99, k0_pay95, k0_pay96]
    rfl
  rw [e, Ex_apply sm b a E hE, Ex_apply sm b a E hE, Ex_apply sm b a E hE]
  exact congrArg (xs (ix2 i q) * ·) (pieces _ hD)

/-- The spread running sums at row `i`, lane `q`. -/
theorem acx_apply (sm : Vec Ideal S8x128 .f32) (b a : Vec Ideal S1x128 .f32) (E : Vec Ideal S128x2048 .bf16) (hE : Spreads E)
    (i : Fin 128) (q : Fin 2048) (hA : Am sm b a (ix2 i ⟨64 + q.val / 64, by omega⟩) ≠ ⊤) :
    k0_pay97 (Ex sm b a E) (ix2 i q) = Am sm b a (ix2 i ⟨64 + q.val / 64, by omega⟩) := by
  have e : k0_pay97 (Ex sm b a E) (ix2 i q)
      = Ex sm b a E (ix2 ⟨128 * (3 : Fin 6).val + i.val, by omega⟩ q) + Ex sm b a E (ix2 ⟨128 * (4 : Fin 6).val + i.val, by omega⟩ q) + Ex sm b a E (ix2 ⟨128 * (5 : Fin 6).val + i.val, by omega⟩ q) := by
    pointwise [k0_pay97]
  rw [e, Ex_apply sm b a E hE, Ex_apply sm b a E hE, Ex_apply sm b a E hE]
  exact pieces _ hA

/-- The last spread running sum is row 127's. -/
theorem last_apply (ex : FVec Ideal S768x2048 .f32) (q : Fin 2048) : k0_pay98 (F := Ideal) ex (ix2 0 q) = k0_pay97 (F := Ideal) ex (ix2 127 q) := by
  pointwise [k0_pay98]

/-- The inputs weighted by the decay to the chunk's end. -/
theorem xw_apply (xs : FVec Ideal S128x2048 .f32) (ex : FVec Ideal S768x2048 .f32) (e1 e2 : FVec Ideal S128x2048 .f32) (i : Fin 128) (q : Fin 2048) :
    k0_pay100 (F := Ideal) xs ex e1 e2 (ix2 i q) = k0_pay99 (F := Ideal) xs ex e1 e2 (ix2 i q) * Ideal.exp (k0_pay97 (F := Ideal) ex (ix2 127 q) - k0_pay97 (F := Ideal) ex (ix2 i q)) := by
  rw [← last_apply]
  pointwise [k0_pay100]

/-- The decay from the chunk's start. -/
theorem ea_apply (ex : FVec Ideal S768x2048 .f32) (i : Fin 128) (q : Fin 2048) :
    k0_pay101 (F := Ideal) ex (ix2 i q) = Ideal.exp (k0_pay97 (F := Ideal) ex (ix2 i q)) := by
  pointwise [k0_pay101]

/-- The chunk's whole decay. -/
theorem el_apply (ex : FVec Ideal S768x2048 .f32) (q : Fin 2048) :
    k0_pay102 (F := Ideal) ex (ix2 0 q) = Ideal.exp (k0_pay97 (F := Ideal) ex (ix2 127 q)) := by
  rw [← last_apply]
  pointwise [k0_pay102]

/-- The transposed running sums. -/
theorem at_apply (sm : Vec Ideal S8x128 .f32) (b a : Vec Ideal S1x128 .f32) (l j : Fin 128) :
    k0_pay93 (F := Ideal) (k0_pay87 0#32) (k0_pay88 sm) k0_pay89 b a (ix2 l j) = Am sm b a (ix2 j l) := by
  pointwise [k0_pay93]
  rfl

end Cert.Ssd
-- ==== Proof.SsdC.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdB

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen

variable (m : (ℓ : Loc nD τ sig) → Buf (Elt Ideal) ℓ)

/-- The half of a group's heads a store of the entry state reads first. -/
def h1 (g k : Fin 4) : Fin 32 := ⟨8 * g.val + 2 * k.val, by omega⟩
/-- The half it reads second. -/
def h2 (g k : Fin 4) : Fin 32 := ⟨8 * g.val + 2 * k.val + 1, by omega⟩

/-- Head `q`'s rectangle of the state block lies in the block. -/
theorem inb_head (q : Fin 32) : ∀ a, (![0, 0, q.val, 0, 0] : Fin S1x1x32x64x128.rank → Nat) a + (![1, 1, 1, 64, 128] : Fin S1x1x32x64x128.rank → Nat) a ≤ S1x1x32x64x128.size a := by
  revert q; decide

/-- Head `q`'s part of the state block. -/
def ldh (X : Vec Ideal S1x1x32x64x128 .f32) (q : Fin 32) : Vec Ideal S1x1x1x64x128 .f32 :=
  View.ld X (Rect.unit ![0, 0, q.val, 0, 0] ![1, 1, 1, 64, 128] (inb_head q))

/-- A head's part at an index. -/
theorem ldh_apply (X : Vec Ideal S1x1x32x64x128 .f32) (q : Fin 32) (p : Fin 64) (n : Fin 128) : ldh X q (ix5 0 0 0 p n) = X (ix5 0 0 q p n) := by
  refine View.ld_unit_apply_of X _ _ (inb_head q) _ _ fun a => ?_
  fin_cases a <;> simp

/-- Four squares of 128 columns join to 512 columns. -/
theorem cat_s : Shape.Concatenates ((List.ofFn fun _ : Fin 4 => S128x128)) S128x512 1 := by decide

/-- Two heads' parts as state rows by lanes. -/
def pr (A B : Vec Ideal S1x1x1x64x128 .f32) : FVec Ideal S128x128 .f32 :=
  transpose S128x128 [1, 0] (concatenate S128x128 0 [(⟨S64x128, shapeCast S64x128 A shapeCasts_S1x1x1x64x128_S64x128⟩ : (s : Shape) × (s.Idx → EReal)),
      ⟨S64x128, shapeCast S64x128 B shapeCasts_S1x1x1x64x128_S64x128⟩] concatenates_S64x128_S64x128_S128x128_d0) transposes_S128x128_p1_0_S128x128

/-- Group `g`'s entry state as the kernel keeps it: state rows by the group's 512 lanes. -/
def ini (X : Vec Ideal S1x1x32x64x128 .f32) (g : Fin 4) : FVec Ideal S1x128x512 .f32 :=
  shapeCast S1x128x512 (concatenate S128x512 1 (List.ofFn fun k : Fin 4 => (⟨S128x128, pr (ldh X (h1 g k)) (ldh X (h2 g k))⟩ : (s : Shape) × (s.Idx → EReal))) cat_s)
    shapeCasts_S128x512_S1x128x512

/-- Two heads' parts at state row `n`, lane `64 b + p`. -/
theorem pr_apply (A B : Vec Ideal S1x1x1x64x128 .f32) (n : Fin 128) (b : Fin 2) (p : Fin 64) :
    pr A B (ix2 n ⟨64 * b.val + p.val, by omega⟩) = (if b = 0 then A else B) (ix5 0 0 0 p n) := by
  fin_cases b
  · pointwise [pr]
  · pointwise [pr]

/-- The entry state at state row `n`, lane `64 e + p`. -/
theorem ini_apply (X : Vec Ideal S1x1x32x64x128 .f32) (g : Fin 4) (e : Fin 8) (n : Fin 128) (p : Fin 64) :
    ini X g (ix3 0 n ⟨64 * e.val + p.val, by omega⟩) = X (ix5 0 0 (hq g e) p n) := by
  have hc : ∀ C : FVec Ideal S128x512 .f32, ∀ k : Fin 512, shapeCast S1x128x512 C shapeCasts_S128x512_S1x128x512 (ix3 0 n k) = C (ix2 n k) := by
    intro C k
    pointwise
  have he := e.isLt
  have hp := p.isLt
  refine (hc _ _).trans ?_
  refine (concatenate_ofFn_apply (t := S128x512) (s₁ := S128x128) 1 (fun k : Fin 4 => pr (ldh X (h1 g k)) (ldh X (h2 g k))) cat_s rfl 128 rfl
    _ ⟨e.val / 2, by omega⟩ ?_ (ix2 n ⟨64 * (⟨e.val % 2, by omega⟩ : Fin 2).val + p.val, by show 64 * (e.val % 2) + p.val < 128; omega⟩) ?_ ?_).trans ?_
  · show (64 * e.val + p.val) / 128 = e.val / 2
    omega
  · show 64 * (e.val % 2) + p.val = (64 * e.val + p.val) % 128
    omega
  · intro b hb
    fin_cases b
    · rfl
    · exact absurd rfl hb
  · refine (pr_apply _ _ n ⟨e.val % 2, by omega⟩ p).trans ?_
    by_cases h : e.val % 2 = 0
    · rw [if_pos (Fin.ext h), ldh_apply]
      exact congrArg (fun q => X (ix5 0 0 q p n)) (Fin.ext (by show 8 * g.val + 2 * (e.val / 2) = 8 * g.val + e.val; omega))
    · rw [if_neg (fun hh => h (congrArg Fin.val hh)), ldh_apply]
      exact congrArg (fun q => X (ix5 0 0 q p n)) (Fin.ext (by show 8 * g.val + 2 * (e.val / 2) + 1 = 8 * g.val + e.val; omega))

/-- Group `g`'s place in the kept state. -/
theorem inb_g (g : Fin 4) : ∀ a, (![g.val, 0, 0] : Fin S4x128x512.rank → Nat) a + (![1, 128, 512] : Fin S4x128x512.rank → Nat) a ≤ S4x128x512.size a := by
  revert g; decide

/-- Group `g`'s rectangle of the kept state. -/
abbrev bx (g : Fin 4) : Rect S4x128x512 := Rect.unit ![g.val, 0, 0] ![1, 128, 512] (inb_g g)

/-- What the kept state holds of group `g` after the stores `L`. -/
abbrev rd (L : List (View.Piece (Elt Ideal) S4x128x512 .f32)) (g : Fin 4) : FVec Ideal S1x128x512 .f32 :=
  (View.whole cc0_scratch0).readCov L (bx g).toLoadRect

/-- Group `g` reads as last stored. -/
theorem rd_same (L : List (View.Piece (Elt Ideal) S4x128x512 .f32)) (g : Fin 4) (w : FVec Ideal S1x128x512 .f32) : rd (⟨bx g, w⟩ :: L) g = w :=
  View.readCov_cons_toLoadRect ..

/-- Another group's store leaves group `g`. -/
theorem rd_other (L : List (View.Piece (Elt Ideal) S4x128x512 .f32)) (g g' : Fin 4) (w : FVec Ideal S1x128x512 .f32) (h : g' ≠ g) :
    rd (⟨bx g', w⟩ :: L) g = rd L g := by
  refine View.readCov_cons_of_disjoint _ _ _ _ ?_
  refine Rect.unit_disjoint (inb := inb_g g') (inb' := inb_g g) 0 ?_
  have := fun e => h (Fin.ext e)
  show g'.val + 1 ≤ g.val ∨ g.val + 1 ≤ g'.val
  omega

/-- The stores of the entry state. -/
def L0 (X : Vec Ideal S1x1x32x64x128 .f32) : List (View.Piece (Elt Ideal) S4x128x512 .f32) :=
  [⟨bx 3, ini X 3⟩, ⟨bx 2, ini X 2⟩, ⟨bx 1, ini X 1⟩, ⟨bx 0, ini X 0⟩]

/-- The stores up to group 0's. -/
def L1 (X : Vec Ideal S1x1x32x64x128 .f32) (xw : FVec Ideal S128x2048 .f32) (el : FVec Ideal S1x2048 .f32) (bc : FVec Ideal S128x1024 .f32) : List (View.Piece (Elt Ideal) S4x128x512 .f32) :=
  ⟨bx 0, nst 0 xw el bc (rd (L0 X) 0)⟩ :: L0 X
/-- The stores up to group 1's. -/
def L2 (X : Vec Ideal S1x1x32x64x128 .f32) (xw : FVec Ideal S128x2048 .f32) (el : FVec Ideal S1x2048 .f32) (bc : FVec Ideal S128x1024 .f32) : List (View.Piece (Elt Ideal) S4x128x512 .f32) :=
  ⟨bx 1, nst 1 xw el bc (rd (L1 X xw el bc) 1)⟩ :: L1 X xw el bc
/-- The stores up to group 2's. -/
def L3 (X : Vec Ideal S1x1x32x64x128 .f32) (xw : FVec Ideal S128x2048 .f32) (el : FVec Ideal S1x2048 .f32) (bc : FVec Ideal S128x1024 .f32) : List (View.Piece (Elt Ideal) S4x128x512 .f32) :=
  ⟨bx 2, nst 2 xw el bc (rd (L2 X xw el bc) 2)⟩ :: L2 X xw el bc
/-- The stores up to group 3's. -/
def L4 (X : Vec Ideal S1x1x32x64x128 .f32) (xw : FVec Ideal S128x2048 .f32) (el : FVec Ideal S1x2048 .f32) (bc : FVec Ideal S128x1024 .f32) : List (View.Piece (Elt Ideal) S4x128x512 .f32) :=
  ⟨bx 3, nst 3 xw el bc (rd (L3 X xw el bc) 3)⟩ :: L3 X xw el bc

/-- The convolution's window of the projections `u` after the kept rows `p`, from row `k` on: 2048 lanes. -/
theorem inb_u (k : Nat) (hk : k ≤ 8) : ∀ a, (![k, 0] : Fin S136x2048.rank → Nat) a + (![128, 2048] : Fin S136x2048.rank → Nat) a ≤ S136x2048.size a := by
  intro a
  fin_cases a
  · show k + 128 ≤ 136
    omega
  · show 0 + 2048 ≤ 2048
    omega

/-- The kept rows as stored. -/
def pk (p : Vec Ideal S1x3x2048 .f32) : FVec Ideal S3x2048 .f32 :=
  shapeCast S3x2048 (shapeCast S3x2048 p shapeCasts_S1x3x2048_S3x2048) shapeCasts_S3x2048_S3x2048

/-- The window's rectangle. -/
abbrev bu (k : Nat) (hk : k ≤ 8) : Rect S136x2048 := Rect.unit ![k, 0] ![128, 2048] (inb_u k hk)

/-- The stores of the kept rows `p` and of the projections `u`. -/
def lw (u : Vec Ideal S8x2048 .f32) (p : Vec Ideal S1x3x2048 .f32) : List (View.Piece (Elt Ideal) S136x2048 .f32) :=
  [⟨Rect.unit ![8, 0] ![128, 2048] inb_S136x2048_S128x2048_8_0, k0_pay76 u⟩, ⟨Rect.unit ![5, 0] ![3, 2048] inb_S136x2048_S3x2048_5_0, pk p⟩]

/-- The convolution's window of the projections `u` after the kept rows `p`, from row `k` on. -/
def win (u : Vec Ideal S8x2048 .f32) (p : Vec Ideal S1x3x2048 .f32) (k : Nat) (hk : k ≤ 8) : FVec Ideal S128x2048 .f32 :=
  (View.whole cc0_scratch1).readCov (lw u p) (bu k hk).toLoadRect

/-- The same over 1024 lanes. -/
theorem inb_u' (k : Nat) (hk : k ≤ 8) : ∀ a, (![k, 0] : Fin S136x1024.rank → Nat) a + (![128, 1024] : Fin S136x1024.rank → Nat) a ≤ S136x1024.size a := by
  intro a
  fin_cases a
  · show k + 128 ≤ 136
    omega
  · show 0 + 1024 ≤ 1024
    omega

/-- The kept rows as stored. -/
def pk' (p : Vec Ideal S1x3x1024 .f32) : FVec Ideal S3x1024 .f32 := k0_pay74 p

/-- The window's rectangle. -/
abbrev bu' (k : Nat) (hk : k ≤ 8) : Rect S136x1024 := Rect.unit ![k, 0] ![128, 1024] (inb_u' k hk)

/-- The stores of the kept rows `p` and of the projections `u`. -/
def lw' (u : Vec Ideal S8x1024 .f32) (p : Vec Ideal S1x3x1024 .f32) : List (View.Piece (Elt Ideal) S136x1024 .f32) :=
  [⟨Rect.unit ![8, 0] ![128, 1024] inb_S136x1024_S128x1024_8_0, k0_pay82 u⟩, ⟨Rect.unit ![5, 0] ![3, 1024] inb_S136x1024_S3x1024_5_0, pk' p⟩]

/-- The convolution's window of the projections `u` after the kept rows `p`, from row `k` on. -/
def win' (u : Vec Ideal S8x1024 .f32) (p : Vec Ideal S1x3x1024 .f32) (k : Nat) (hk : k ≤ 8) : FVec Ideal S128x1024 .f32 :=
  (View.whole cc0_scratch2).readCov (lw' u p) (bu' k hk).toLoadRect

/-- The heads' inputs after the convolution and the gate. -/
def cx (u : Vec Ideal S8x2048 .f32) (p : Vec Ideal S1x3x2048 .f32) (w : Vec Ideal S4x2048 .f32) (b : Vec Ideal S1x2048 .f32) : FVec Ideal S128x2048 .f32 :=
  k0_pay80 (k0_pay77 u b (View.ld w (Rect.unit ![3, 0] ![1, 2048] inb_S4x2048_S1x2048_3_0)) (win u p 5 (by decide)) (View.ld w (Rect.unit ![0, 0] ![1, 2048] inb_S4x2048_S1x2048_0_0))
    (win u p 6 (by decide)) (View.ld w (Rect.unit ![1, 0] ![1, 2048] inb_S4x2048_S1x2048_1_0))) (win u p 7 (by decide)) (k0_pay78 (View.ld w (Rect.unit ![2, 0] ![1, 2048] inb_S4x2048_S1x2048_2_0)))

/-- The groups' projections after the convolution and the gate. -/
def cc (u : Vec Ideal S8x1024 .f32) (p : Vec Ideal S1x3x1024 .f32) (w : Vec Ideal S4x1024 .f32) (b : Vec Ideal S1x1024 .f32) : FVec Ideal S128x1024 .f32 :=
  k0_pay85 (k0_pay83 u b (View.ld w (Rect.unit ![3, 0] ![1, 1024] inb_S4x1024_S1x1024_3_0)) (win' u p 5 (by decide)) (View.ld w (Rect.unit ![0, 0] ![1, 1024] inb_S4x1024_S1x1024_0_0)))
    (win' u p 6 (by decide)) (View.ld w (Rect.unit ![1, 0] ![1, 1024] inb_S4x1024_S1x1024_1_0)) (win' u p 7 (by decide)) (View.ld w (Rect.unit ![2, 0] ![1, 1024] inb_S4x1024_S1x1024_2_0))

/-- The time block's number as the kernel's word. -/
def v1 (t : Fin cfg0.N) : BitVec 32 := BitVec.ofNat 32 (grid0.coords t 1).val

/-- The word the samples' branch works with is zero. -/
theorem v1_eq (t : Fin cfg0.N) : v1 t = 0#32 := by revert t; decide +kernel

/-- The point's block of the small lanes. -/
def B3 (c : Dev nD) (t : Fin cfg0.N) : Vec Ideal S8x128 .f32 := iblk m c 3 t
/-- The point's block of the heads' kept rows. -/
def B5 (c : Dev nD) (t : Fin cfg0.N) : Vec Ideal S1x3x2048 .f32 := iblk m c 5 t
/-- The point's block of the groups' kept rows. -/
def B6 (c : Dev nD) (t : Fin cfg0.N) : Vec Ideal S1x3x1024 .f32 := iblk m c 6 t
/-- The point's block of the heads' convolution weights. -/
def B7 (c : Dev nD) (t : Fin cfg0.N) : Vec Ideal S4x2048 .f32 := iblk m c 7 t
/-- The point's block of the heads' convolution bias. -/
def B8 (c : Dev nD) (t : Fin cfg0.N) : Vec Ideal S1x2048 .f32 := iblk m c 8 t
/-- The point's block of the groups' convolution weights. -/
def B9 (c : Dev nD) (t : Fin cfg0.N) : Vec Ideal S4x1024 .f32 := iblk m c 9 t
/-- The point's block of the groups' convolution bias. -/
def B10 (c : Dev nD) (t : Fin cfg0.N) : Vec Ideal S1x1024 .f32 := iblk m c 10 t
/-- The point's block of the step bias. -/
def B11 (c : Dev nD) (t : Fin cfg0.N) : Vec Ideal S1x128 .f32 := iblk m c 11 t
/-- The point's block of the rates. -/
def B12 (c : Dev nD) (t : Fin cfg0.N) : Vec Ideal S1x128 .f32 := iblk m c 12 t
/-- The point's block of the skip. -/
def B13 (c : Dev nD) (t : Fin cfg0.N) : Vec Ideal S1x2048 .f32 := iblk m c 13 t
/-- The point's block of the norm's weights. -/
def B14 (c : Dev nD) (t : Fin cfg0.N) : Vec Ideal S1x2048 .f32 := iblk m c 14 t
/-- The point's block of the entry state. -/
def B4 (c : Dev nD) (t : Fin cfg0.N) : Vec Ideal S1x1x32x64x128 .f32 := iblk m c 4 t
/-- The spreading matrix. -/
def B15 (c : Dev nD) (t : Fin cfg0.N) : Vec Ideal S128x2048 .bf16 := iblk m c 15 t

/-- The point's heads' inputs. -/
def XS (c : Dev nD) (t : Fin cfg0.N) : FVec Ideal S128x2048 .f32 := cx (X0_1 m c t) (B5 m c t) (B7 m c t) (B8 m c t)
/-- The point's groups' projections. -/
def BC (c : Dev nD) (t : Fin cfg0.N) : FVec Ideal S128x1024 .f32 := cc (X0_2 m c t) (B6 m c t) (B9 m c t) (B10 m c t)
/-- The point's entry state. -/
def HX (c : Dev nD) (t : Fin cfg0.N) : Vec Ideal S1x1x32x64x128 .f32 := View.read (Elt Ideal) (ms0_4 t).view ((hs0_4 t).unread (B4 m c t))

/-- The state a point starts from is its block of the carried states. -/
theorem HX_eq (c : Dev nD) (t : Fin cfg0.N) : HX m c t = B4 m c t := (hs0_4 t).read_unread _

/-- The point's spread parts at the word `v`. -/
def EX (c : Dev nD) (t : Fin cfg0.N) (v : BitVec 32) : FVec Ideal S768x2048 .f32 :=
  k0_pay94 (F := Ideal) (k0_pay87 v) (k0_pay88 (B3 m c t)) k0_pay89 (B11 m c t) (B12 m c t) (B15 m c t)
def E1 (c : Dev nD) (t : Fin cfg0.N) (v : BitVec 32) : FVec Ideal S128x2048 .f32 :=
  k0_pay95 (F := Ideal) (k0_pay87 v) (k0_pay88 (B3 m c t)) k0_pay89 (B11 m c t) (B12 m c t) (B15 m c t)
def E2 (c : Dev nD) (t : Fin cfg0.N) (v : BitVec 32) : FVec Ideal S128x2048 .f32 :=
  k0_pay96 (F := Ideal) (k0_pay87 v) (k0_pay88 (B3 m c t)) k0_pay89 (B11 m c t) (B12 m c t) (B15 m c t)
def AC (c : Dev nD) (t : Fin cfg0.N) (v : BitVec 32) : FVec Ideal S128x128 .f32 :=
  k0_pay92 (F := Ideal) (k0_pay87 v) (k0_pay88 (B3 m c t)) k0_pay89 (B11 m c t) (B12 m c t)
def AT (c : Dev nD) (t : Fin cfg0.N) (v : BitVec 32) : FVec Ideal S128x128 .f32 :=
  k0_pay93 (F := Ideal) (k0_pay87 v) (k0_pay88 (B3 m c t)) k0_pay89 (B11 m c t) (B12 m c t)
def XD (c : Dev nD) (t : Fin cfg0.N) (v : BitVec 32) : FVec Ideal S128x2048 .f32 := k0_pay99 (XS m c t) (EX m c t v) (E1 m c t v) (E2 m c t v)
def XW (c : Dev nD) (t : Fin cfg0.N) (v : BitVec 32) : FVec Ideal S128x2048 .f32 := k0_pay100 (XS m c t) (EX m c t v) (E1 m c t v) (E2 m c t v)

/-- The stores' lists at the point. -/
def M0 (c : Dev nD) (t : Fin cfg0.N) := L0 (HX m c t)
def M1 (c : Dev nD) (t : Fin cfg0.N) (v : BitVec 32) := L1 (HX m c t) (XW m c t v) (k0_pay102 (EX m c t v)) (BC m c t)
def M2 (c : Dev nD) (t : Fin cfg0.N) (v : BitVec 32) := L2 (HX m c t) (XW m c t v) (k0_pay102 (EX m c t v)) (BC m c t)
def M3 (c : Dev nD) (t : Fin cfg0.N) (v : BitVec 32) := L3 (HX m c t) (XW m c t v) (k0_pay102 (EX m c t v)) (BC m c t)
def M4 (c : Dev nD) (t : Fin cfg0.N) (v : BitVec 32) := L4 (HX m c t) (XW m c t v) (k0_pay102 (EX m c t v)) (BC m c t)

/-- A group's output at the point, from the state `H`. -/
def GR (c : Dev nD) (t : Fin cfg0.N) (v : BitVec 32) (g : Fin 4) (H : FVec Ideal S1x128x512 .f32) : FVec Ideal S128x512 .f32 :=
  grp g k0_pay91 (AC m c t v) (AT m c t v) (XD m c t v) (BC m c t) (k0_pay101 (EX m c t v)) H

/-- The point's first output. -/
theorem out1_eq (c : Dev nD) (t : Fin cfg0.N) :
    (outsAt0 m c t).1 = k0_pay1 (k0_pay163 (gated (XS m c t) (k0_pay86 (X0_0 m c t))
      ![GR m c t (v1 t) 0 (rd (M0 m c t) 0), GR m c t (v1 t) 1 (rd (M1 m c t (v1 t)) 1), GR m c t (v1 t) 2 (rd (M2 m c t (v1 t)) 2), GR m c t (v1 t) 3 (rd (M3 m c t (v1 t)) 3)]
      (B13 m c t))) (B14 m c t) := by
  unfold outsAt0
  frame_out
  rfl

/-- Each group's entry state reads back. -/
theorem rd_M0 (c : Dev nD) (t : Fin cfg0.N) (g : Fin 4) : rd (M0 m c t) g = ini (HX m c t) g := by
  unfold M0 L0
  fin_cases g
  · exact (rd_other _ _ _ _ (by decide)).trans ((rd_other _ _ _ _ (by decide)).trans ((rd_other _ _ _ _ (by decide)).trans (rd_same ..)))
  · exact (rd_other _ _ _ _ (by decide)).trans ((rd_other _ _ _ _ (by decide)).trans (rd_same ..))
  · exact (rd_other _ _ _ _ (by decide)).trans (rd_same ..)
  · exact rd_same ..

/-- Writing group 0's state leaves group 1's state as it was. -/
theorem rd_M1 (c : Dev nD) (t : Fin cfg0.N) (v : BitVec 32) : rd (M1 m c t v) 1 = ini (HX m c t) 1 :=
  (rd_other _ _ _ _ (by decide)).trans (rd_M0 m c t 1)

/-- Writing the first two groups' states leaves group 2's state as it was. -/
theorem rd_M2 (c : Dev nD) (t : Fin cfg0.N) (v : BitVec 32) : rd (M2 m c t v) 2 = ini (HX m c t) 2 :=
  (rd_other _ _ _ _ (by decide)).trans ((rd_other _ _ _ _ (by decide)).trans (rd_M0 m c t 2))

/-- Writing the first three groups' states leaves group 3's state as it was. -/
theorem rd_M3 (c : Dev nD) (t : Fin cfg0.N) (v : BitVec 32) : rd (M3 m c t v) 3 = ini (HX m c t) 3 :=
  (rd_other _ _ _ _ (by decide)).trans ((rd_other _ _ _ _ (by decide)).trans ((rd_other _ _ _ _ (by decide)).trans (rd_M0 m c t 3)))

/-- A group's state after the point. -/
def NS (c : Dev nD) (t : Fin cfg0.N) (v : BitVec 32) (g : Fin 4) : FVec Ideal S1x128x512 .f32 :=
  nst g (XW m c t v) (k0_pay102 (EX m c t v)) (BC m c t) (ini (HX m c t) g)

/-- After all stores each group holds its new state. -/
theorem rd_M4 (c : Dev nD) (t : Fin cfg0.N) (v : BitVec 32) (g : Fin 4) : rd (M4 m c t v) g = NS m c t v g := by
  fin_cases g
  · refine (rd_other _ _ _ _ (by decide)).trans ((rd_other _ _ _ _ (by decide)).trans ((rd_other _ _ _ _ (by decide)).trans ((rd_same ..).trans ?_)))
    exact congrArg (nst 0 _ _ _) (rd_M0 m c t 0)
  · refine (rd_other _ _ _ _ (by decide)).trans ((rd_other _ _ _ _ (by decide)).trans ((rd_same ..).trans ?_))
    exact congrArg (nst 1 _ _ _) (rd_M1 m c t v)
  · refine (rd_other _ _ _ _ (by decide)).trans ((rd_same ..).trans ?_)
    exact congrArg (nst 2 _ _ _) (rd_M2 m c t v)
  · refine (rd_same ..).trans ?_
    exact congrArg (nst 3 _ _ _) (rd_M3 m c t v)

/-- A pair of heads lies within its group's 512 columns. -/
theorem sl_pair (q : Fin 32) : S128x512.Slices ![0, 128 * (q.val % 8 / 2)] S128x128 := by revert q; decide
/-- One head of a pair lies within the pair's 128 rows. -/
theorem sl_half (q : Fin 32) : S128x128.Slices ![64 * (q.val % 2), 0] S64x128 := by revert q; decide

/-- Head `q`'s part of its group's state, as stored. -/
def hp (q : Fin 32) (H : FVec Ideal S1x128x512 .f32) : FVec Ideal S1x1x1x64x128 .f32 :=
  shapeCast S1x1x1x64x128 (extractStridedSlice S64x128 ![64 * (q.val % 2), 0] (transpose S128x128 [1, 0]
    (extractStridedSlice S128x128 ![0, 128 * (q.val % 8 / 2)] (shapeCast S128x512 H shapeCasts_S1x128x512_S128x512) (sl_pair q))
      transposes_S128x128_p1_0_S128x128) (sl_half q)) shapeCasts_S64x128_S1x1x1x64x128

/-- A head's part at an index. -/
theorem hp_apply (q : Fin 32) (H : FVec Ideal S1x128x512 .f32) (p : Fin 64) (n : Fin 128) :
    hp q H (ix5 0 0 0 p n) = H (ix3 0 n ⟨128 * (q.val % 8 / 2) + (64 * (q.val % 2) + p.val), by omega⟩) := by
  pointwise [hp]

/-- The group of head `q`. -/
def gq (q : Fin 32) : Fin 4 := ⟨q.val / 8, by omega⟩

/-- Head `q`'s rectangle of the state block. -/
abbrev bh (q : Fin 32) : Rect S1x1x32x64x128 := Rect.unit ![0, 0, q.val, 0, 0] ![1, 1, 1, 64, 128] (inb_head q)

/-- Two heads' rectangles share no cell. -/
theorem bh_disjoint (k k' : Fin 32) (hk : k ≠ k') : Disjoint (bh k.rev).set (bh k'.rev).set := by
  refine Rect.unit_disjoint (inb := inb_head k.rev) (inb' := inb_head k'.rev) 2 ?_
  have h : k.rev.val ≠ k'.rev.val := fun h => hk (Fin.rev_injective (Fin.ext h))
  show k.rev.val + 1 ≤ k'.rev.val ∨ k'.rev.val + 1 ≤ k.rev.val
  omega

/-- An index of head `q`'s rectangle in the block. -/
theorem bh_emb (q : Fin 32) (p : Fin 64) (n : Fin 128) : (bh q).emb (ix5 0 0 0 p n) = ix5 0 0 q p n := by
  funext a
  refine Fin.ext ?_
  rw [Rect.emb_apply]
  fin_cases a <;> simp

/-- The heads' parts stored one by one read back at an index. -/
theorem heads_apply (P : Fin 32 → FVec Ideal S1x1x1x64x128 .f32) (q : Fin 32) (p : Fin 64) (n : Fin 128) :
    View.canon (List.ofFn fun k : Fin 32 => (⟨bh k.rev, P k⟩ : View.Piece (Elt Ideal) S1x1x32x64x128 .f32)) (ix5 0 0 q.rev p n) = P q (ix5 0 0 0 p n) := by
  rw [← bh_emb]
  generalize (ix5 0 0 0 p n : S1x1x1x64x128.Idx) = x
  exact View.canon_ofFn_emb_of_disjoint (Val := Elt Ideal) (e := .f32) (fun k : Fin 32 => bh k.rev) (fun k => P k) bh_disjoint q x

/-- The part stored at place `k` from the last: head `31 - k`'s. -/
def HP (c : Dev nD) (t : Fin cfg0.N) (k : Fin 32) : FVec Ideal S1x1x1x64x128 .f32 := hp k.rev (rd (M4 m c t (v1 t)) (gq k.rev))

/-- The state written for a head is the head's part of its group's new state. -/
theorem HP_eq (c : Dev nD) (t : Fin cfg0.N) (q : Fin 32) : HP m c t q.rev = hp q (NS m c t (v1 t) (gq q)) := by
  unfold HP
  rw [Fin.rev_rev, rd_M4]

/-- The point's second output: the heads' parts, the last stored first. -/
theorem out2_eq (c : Dev nD) (t : Fin cfg0.N) :
    (outsAt0 m c t).2 = View.canon (List.ofFn fun k : Fin 32 => (⟨bh k.rev, HP m c t k⟩ : View.Piece (Elt Ideal) S1x1x32x64x128 .f32)) := by
  unfold outsAt0
  frame_out
  rfl

/-- The point's second output at head `q`. -/
theorem out2_apply (c : Dev nD) (t : Fin cfg0.N) (q : Fin 32) (p : Fin 64) (n : Fin 128) :
    (outsAt0 m c t).2 (ix5 0 0 q p n) = hp q (NS m c t (v1 t) (gq q)) (ix5 0 0 0 p n) :=
  (congrFun (out2_eq m c t) (ix5 0 0 q p n)).trans (((congrArg (fun r => View.canon (List.ofFn fun k : Fin 32 => (⟨bh k.rev, HP m c t k⟩ : View.Piece (Elt Ideal) S1x1x32x64x128 .f32)) (ix5 0 0 r p n)) (Fin.rev_rev q)).symm.trans
    (heads_apply (HP m c t) q.rev p n)).trans (congrFun (HP_eq m c t q) _))

end Cert.Ssd
-- ==== Proof.SsdD.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdC

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen

variable (m : (ℓ : Loc nD τ sig) → Buf (Elt Ideal) ℓ)

/-- Rows from the eighth on and the three rows before them, stored apart, read back at row `r`. -/
theorem rows_apply {W : Nat} (inb8 : ∀ a, (![8, 0] : Fin 2 → Nat) a + (![128, W] : Fin 2 → Nat) a ≤ (⟨2, ![136, W]⟩ : Shape).size a)
    (inb5 : ∀ a, (![5, 0] : Fin 2 → Nat) a + (![3, W] : Fin 2 → Nat) a ≤ (⟨2, ![136, W]⟩ : Shape).size a)
    (A : (⟨2, ![128, W]⟩ : Shape).Idx → EReal) (B : (⟨2, ![3, W]⟩ : Shape).Idx → EReal) (r : Fin 136) (q : Fin W) (hr : 5 ≤ r.val) :
    View.canon [(⟨Rect.unit (s := ⟨2, ![136, W]⟩) ![8, 0] ![128, W] inb8, A⟩ : View.Piece (Elt Ideal) ⟨2, ![136, W]⟩ .f32),
      ⟨Rect.unit (s := ⟨2, ![136, W]⟩) ![5, 0] ![3, W] inb5, B⟩] (ix2 r q)
      = if h : 8 ≤ r.val then A (ix2 ⟨r.val - 8, by omega⟩ q) else B (ix2 ⟨r.val - 5, by omega⟩ q) := by
  by_cases h : 8 ≤ r.val
  · rw [dif_pos h]
    have e : (ix2 r q : (⟨2, ![136, W]⟩ : Shape).Idx) = (Rect.unit (s := ⟨2, ![136, W]⟩) ![8, 0] ![128, W] inb8).emb (ix2 ⟨r.val - 8, by omega⟩ q) := by
      funext a
      refine Fin.ext ?_
      rw [Rect.emb_apply]
      fin_cases a
      · show r.val = 8 + 1 * (r.val - 8)
        omega
      · show q.val = 0 + 1 * q.val
        omega
    rw [e]
    exact View.canon_cons_emb ..
  · rw [dif_neg h]
    rw [View.canon_cons_of_not_mem]
    · have e : (ix2 r q : (⟨2, ![136, W]⟩ : Shape).Idx) = (Rect.unit (s := ⟨2, ![136, W]⟩) ![5, 0] ![3, W] inb5).emb (ix2 ⟨r.val - 5, by omega⟩ q) := by
        funext a
        refine Fin.ext ?_
        rw [Rect.emb_apply]
        fin_cases a
        · show r.val = 5 + 1 * (r.val - 5)
          omega
        · show q.val = 0 + 1 * q.val
          omega
      rw [e]
      exact View.canon_cons_emb ..
    · intro hm
      exact h (Rect.mem_set_unit (inb := inb8).mp hm 0).1

/-- The convolution's tap `k` at row `i`: a kept row, or one of the new ones. -/
def tp (u : Fin 8 → EReal) (p : Fin 3 → EReal) (k : Fin 3) (i : Fin 8) : EReal :=
  if h : i.val + k.val < 3 then p ⟨i.val + k.val, h⟩ else u ⟨i.val + k.val - 3, by omega⟩

/-- The convolution at row `i`, in the kernel's order. -/
def cvv (u : Fin 8 → EReal) (p : Fin 3 → EReal) (w : Fin 4 → EReal) (b : EReal) (i : Fin 8) : EReal :=
  b + u i * w 3 + tp u p 0 i * w 0 + tp u p 1 i * w 1 + tp u p 2 i * w 2

/-- A value times its logistic. -/
def si (x : EReal) : EReal := x * Mix.sg x

/-- The first eight of the padded rows are the block's rows (2048 channels). -/
theorem pay76_apply (u : Vec Ideal S8x2048 .f32) (i : Fin 128) (h : i.val < 8) (q : Fin 2048) : k0_pay76 (F := Ideal) u (ix2 i q) = u (ix2 ⟨i.val, h⟩ q) := by
  pointwise [k0_pay76, k0_pay75]
  rw [dif_pos h]

/-- The first eight of the padded rows are the block's rows (1024 channels). -/
theorem pay82_apply (u : Vec Ideal S8x1024 .f32) (i : Fin 128) (h : i.val < 8) (q : Fin 1024) : k0_pay82 (F := Ideal) u (ix2 i q) = u (ix2 ⟨i.val, h⟩ q) := by
  pointwise [k0_pay82, k0_pay81]
  rw [dif_pos h]

/-- The three carried rows without their leading axis (2048 channels). -/
theorem pk_apply (p : Vec Ideal S1x3x2048 .f32) (i : Fin 3) (q : Fin 2048) : pk p (ix2 i q) = p (ix3 0 i q) := by
  pointwise [pk]

/-- The three carried rows without their leading axis (1024 channels). -/
theorem pk'_apply (p : Vec Ideal S1x3x1024 .f32) (i : Fin 3) (q : Fin 1024) : pk' p (ix2 i q) = p (ix3 0 i q) := by
  pointwise [pk', k0_pay74]

/-- A window's entry is a tap: the heads' inputs. -/
theorem win_apply (u : Vec Ideal S8x2048 .f32) (p : Vec Ideal S1x3x2048 .f32) (k : Fin 3) (hk : 5 + k.val ≤ 8) (i : Fin 8) (q : Fin 2048) :
    win u p (5 + k.val) hk (ix2 ⟨i.val, by omega⟩ q) = tp (fun j => u (ix2 j q)) (fun j => p (ix3 0 j q)) k i := by
  unfold win
  rw [View.readCov_eq_canon']
  have e : (bu (5 + k.val) hk).toLoadRect.idx (ix2 ⟨i.val, by omega⟩ q) = ix2 ⟨5 + k.val + i.val, by omega⟩ q := by
    funext a
    refine Fin.ext ?_
    fin_cases a <;> simp
  refine (congrArg (View.canon (lw u p)) e).trans ?_
  refine (rows_apply _ _ (k0_pay76 u) (pk p) _ q (by show 5 ≤ 5 + k.val + i.val; omega)).trans ?_
  unfold tp
  by_cases h : i.val + k.val < 3
  · rw [dif_pos h, dif_neg (by show ¬ 8 ≤ 5 + k.val + i.val; omega), pk_apply]
    exact congrArg (fun r => p (ix3 0 r q)) (Fin.ext (by show 5 + k.val + i.val - 5 = i.val + k.val; omega))
  · rw [dif_neg h, dif_pos (by show 8 ≤ 5 + k.val + i.val; omega), pay76_apply u _ (by show 5 + k.val + i.val - 8 < 8; omega)]
    exact congrArg (fun r => u (ix2 r q)) (Fin.ext (by show 5 + k.val + i.val - 8 = i.val + k.val - 3; omega))

/-- A window's entry is a tap: the groups' projections. -/
theorem win'_apply (u : Vec Ideal S8x1024 .f32) (p : Vec Ideal S1x3x1024 .f32) (k : Fin 3) (hk : 5 + k.val ≤ 8) (i : Fin 8) (q : Fin 1024) :
    win' u p (5 + k.val) hk (ix2 ⟨i.val, by omega⟩ q) = tp (fun j => u (ix2 j q)) (fun j => p (ix3 0 j q)) k i := by
  unfold win'
  rw [View.readCov_eq_canon']
  have e : (bu' (5 + k.val) hk).toLoadRect.idx (ix2 ⟨i.val, by omega⟩ q) = ix2 ⟨5 + k.val + i.val, by omega⟩ q := by
    funext a
    refine Fin.ext ?_
    fin_cases a <;> simp
  refine (congrArg (View.canon (lw' u p)) e).trans ?_
  refine (rows_apply _ _ (k0_pay82 u) (pk' p) _ q (by show 5 ≤ 5 + k.val + i.val; omega)).trans ?_
  unfold tp
  by_cases h : i.val + k.val < 3
  · rw [dif_pos h, dif_neg (by show ¬ 8 ≤ 5 + k.val + i.val; omega), pk'_apply]
    exact congrArg (fun r => p (ix3 0 r q)) (Fin.ext (by show 5 + k.val + i.val - 5 = i.val + k.val; omega))
  · rw [dif_neg h, dif_pos (by show 8 ≤ 5 + k.val + i.val; omega), pay82_apply u _ (by show 5 + k.val + i.val - 8 < 8; omega)]
    exact congrArg (fun r => u (ix2 r q)) (Fin.ext (by show 5 + k.val + i.val - 8 = i.val + k.val - 3; omega))

/-- The kernel's convolution and gate over whole vectors, at an index. -/
theorem pay80_apply (u : Vec Ideal S8x2048 .f32) (b w3 w0 w1 w2 : Vec Ideal S1x2048 .f32) (a0 a1 a2 : FVec Ideal S128x2048 .f32) (i : Fin 8) (q : Fin 2048) :
    k0_pay80 (F := Ideal) (k0_pay77 u b w3 a0 w0 a1 w1) a2 (k0_pay78 w2) (ix2 ⟨i.val, by omega⟩ q)
      = si (b (ix2 0 q) + u (ix2 i q) * w3 (ix2 0 q) + a0 (ix2 ⟨i.val, by omega⟩ q) * w0 (ix2 0 q) + a1 (ix2 ⟨i.val, by omega⟩ q) * w1 (ix2 0 q)
        + a2 (ix2 ⟨i.val, by omega⟩ q) * w2 (ix2 0 q)) := by
  unfold si
  rw [← Mix.sg_tanh]
  pointwise [k0_pay80, k0_pay77, k0_pay78, k0_pay75]

/-- The convolution of the B and C channels followed by silu, element by element. -/
theorem pay85_apply (u : Vec Ideal S8x1024 .f32) (b w3 w0 w1 w2 : Vec Ideal S1x1024 .f32) (a0 a1 a2 : FVec Ideal S128x1024 .f32) (i : Fin 8) (q : Fin 1024) :
    k0_pay85 (F := Ideal) (k0_pay83 u b w3 a0 w0) a1 w1 a2 w2 (ix2 ⟨i.val, by omega⟩ q)
      = si (b (ix2 0 q) + u (ix2 i q) * w3 (ix2 0 q) + a0 (ix2 ⟨i.val, by omega⟩ q) * w0 (ix2 0 q) + a1 (ix2 ⟨i.val, by omega⟩ q) * w1 (ix2 0 q)
        + a2 (ix2 ⟨i.val, by omega⟩ q) * w2 (ix2 0 q)) := by
  unfold si
  rw [← Mix.sg_tanh]
  pointwise [k0_pay85, k0_pay83, k0_pay81]

/-- One row of the convolution's weights. -/
theorem wrow (w : Vec Ideal S4x2048 .f32) (k : Fin 4) (inb) (q : Fin 2048) :
    View.ld w (Rect.unit ![k.val, 0] ![1, 2048] inb) (ix2 0 q) = w (ix2 k q) := by
  refine View.ld_unit_apply_of w _ _ inb _ _ fun a => ?_
  fin_cases a <;> simp

/-- A row read from the B and C channels' convolution weights. -/
theorem wrow' (w : Vec Ideal S4x1024 .f32) (k : Fin 4) (inb) (q : Fin 1024) :
    View.ld w (Rect.unit ![k.val, 0] ![1, 1024] inb) (ix2 0 q) = w (ix2 k q) := by
  refine View.ld_unit_apply_of w _ _ inb _ _ fun a => ?_
  fin_cases a <;> simp

/-- The heads' inputs at row `i`, lane `q`. -/
theorem cx_apply (u : Vec Ideal S8x2048 .f32) (p : Vec Ideal S1x3x2048 .f32) (w : Vec Ideal S4x2048 .f32) (b : Vec Ideal S1x2048 .f32) (i : Fin 8) (q : Fin 2048) :
    cx u p w b (ix2 ⟨i.val, by omega⟩ q) = si (cvv (fun j => u (ix2 j q)) (fun j => p (ix3 0 j q)) (fun k => w (ix2 k q)) (b (ix2 0 q)) i) := by
  refine (pay80_apply u b _ _ _ _ _ _ _ i q).trans (congrArg si ?_)
  unfold cvv
  rw [← win_apply u p 0 (by decide) i q, ← win_apply u p 1 (by decide) i q, ← win_apply u p 2 (by decide) i q]
  beta_reduce
  rw [← wrow w 0 inb_S4x2048_S1x2048_0_0 q, ← wrow w 1 inb_S4x2048_S1x2048_1_0 q, ← wrow w 2 inb_S4x2048_S1x2048_2_0 q, ← wrow w 3 inb_S4x2048_S1x2048_3_0 q]
  rfl

/-- The groups' projections at row `i`, lane `q`. -/
theorem cc_apply (u : Vec Ideal S8x1024 .f32) (p : Vec Ideal S1x3x1024 .f32) (w : Vec Ideal S4x1024 .f32) (b : Vec Ideal S1x1024 .f32) (i : Fin 8) (q : Fin 1024) :
    cc u p w b (ix2 ⟨i.val, by omega⟩ q) = si (cvv (fun j => u (ix2 j q)) (fun j => p (ix3 0 j q)) (fun k => w (ix2 k q)) (b (ix2 0 q)) i) := by
  refine (pay85_apply u b _ _ _ _ _ _ _ i q).trans (congrArg si ?_)
  unfold cvv
  rw [← win'_apply u p 0 (by decide) i q, ← win'_apply u p 1 (by decide) i q, ← win'_apply u p 2 (by decide) i q]
  beta_reduce
  rw [← wrow' w 0 inb_S4x1024_S1x1024_0_0 q, ← wrow' w 1 inb_S4x1024_S1x1024_1_0 q, ← wrow' w 2 inb_S4x1024_S1x1024_2_0 q, ← wrow' w 3 inb_S4x1024_S1x1024_3_0 q]
  rfl

end Cert.Ssd
-- ==== Proof.SsdE.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdD

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen

variable (m : (ℓ : Loc nD τ sig) → Buf (Elt Ideal) ℓ)

/-- What one sequence's chunk of eight rows is computed from: step sizes, rates, the heads' inputs, the groups' projections, the gate, the entry
state, the skip and the norm's weights. -/
structure Ck where
  /-- the step size of a row and a head -/
  dt : Fin 8 → Fin 32 → EReal
  /-- the head's rate -/
  a : Fin 32 → EReal
  /-- the heads' inputs, 64 lanes a head -/
  x : Fin 8 → Fin 2048 → EReal
  /-- the groups' input projections, then their output projections, 128 lanes a group -/
  bc : Fin 8 → Fin 1024 → EReal
  /-- the gate -/
  z : Fin 8 → Fin 2048 → EReal
  /-- the entry state of a head -/
  h : Fin 32 → Fin 64 → Fin 128 → EReal
  /-- the skip's weight of a lane -/
  dsk : Fin 2048 → EReal
  /-- the norm's weight of a lane -/
  nw : Fin 2048 → EReal

/-- The value the kernel puts for a later row before the exponential. -/
abbrev NEG : EReal := Ideal.ofBits .f32 0xFF800000#32

/-- A head's running sum of step size times rate. -/
def Ck.ac (K : Ck) (i : Fin 8) (h : Fin 32) : EReal := acs (fun j => K.dt j h) (K.a h) i
/-- A group's score of an output row and an input row. -/
def Ck.sc (K : Ck) (g : Fin 4) (i j : Fin 8) : EReal :=
  ∑ n : Fin 128, K.bc i ⟨512 + 128 * g.val + n.val, by omega⟩ * K.bc j ⟨128 * g.val + n.val, by omega⟩
/-- A head's part from the chunk's own rows. -/
def Ck.intra (K : Ck) (g : Fin 4) (h : Fin 32) (p : Fin 64) (i : Fin 8) : EReal :=
  ∑ j : Fin 8, K.sc g i j * Ideal.exp (upto i.val j.val (K.ac i h - K.ac j h) NEG) * (K.x j ⟨64 * h.val + p.val, by omega⟩ * K.dt j h)
/-- A head's part from the entry state. -/
def Ck.inter (K : Ck) (g : Fin 4) (h : Fin 32) (p : Fin 64) (i : Fin 8) : EReal :=
  (∑ n : Fin 128, K.bc i ⟨512 + 128 * g.val + n.val, by omega⟩ * K.h h p n) * Ideal.exp (K.ac i h)
/-- The group of a lane. -/
def gl (q : Fin 2048) : Fin 4 := ⟨q.val / 512, by omega⟩
/-- The head of a lane. -/
def hl (q : Fin 2048) : Fin 32 := ⟨q.val / 64, by omega⟩
/-- The place of a lane in its head. -/
def pl (q : Fin 2048) : Fin 64 := ⟨q.val % 64, by omega⟩
/-- A row's gated output at a lane. -/
def Ck.y (K : Ck) (i : Fin 8) (q : Fin 2048) : EReal :=
  (K.inter (gl q) (hl q) (pl q) i + K.intra (gl q) (hl q) (pl q) i + K.x i q * K.dsk q) * si (K.z i q)
/-- A row's output: the gated one normalised over its group. -/
def Ck.out (K : Ck) (i : Fin 8) (q : Fin 2048) : EReal :=
  K.y i q * Ideal.rsqrt (Ideal.div (∑ l : Fin 512, K.y i ⟨512 * (gl q).val + l.val, by have := (gl q).isLt; omega⟩ * K.y i ⟨512 * (gl q).val + l.val, by have := (gl q).isLt; omega⟩)
    (Ideal.ofBits .f32 0x44000000#32) + Ideal.ofBits .f32 0x358637BD#32) * K.nw q
/-- A head's state after the chunk. -/
def Ck.st (K : Ck) (h : Fin 32) (p : Fin 64) (n : Fin 128) : EReal :=
  K.h h p n * Ideal.exp (K.ac 7 h)
    + ∑ j : Fin 8, K.bc j ⟨128 * (gq h).val + n.val, by have := (gq h).isLt; omega⟩ * (K.x j ⟨64 * h.val + p.val, by omega⟩ * K.dt j h * Ideal.exp (K.ac 7 h - K.ac j h))

/-- The chunk the kernel's point works on. -/
def CK (c : Dev nD) (t : Fin cfg0.N) : Ck where
  dt j h := sp ((B3 m c t) (ix2 j ⟨64 + h.val, by omega⟩) + (B11 m c t) (ix2 0 ⟨64 + h.val, by omega⟩))
  a h := (B12 m c t) (ix2 0 ⟨64 + h.val, by omega⟩)
  x i q := si (cvv (fun j => X0_1 m c t (ix2 j q)) (fun j => (B5 m c t) (ix3 0 j q)) (fun k => (B7 m c t) (ix2 k q)) ((B8 m c t) (ix2 0 q)) i)
  bc i q := si (cvv (fun j => X0_2 m c t (ix2 j q)) (fun j => (B6 m c t) (ix3 0 j q)) (fun k => (B9 m c t) (ix2 k q)) ((B10 m c t) (ix2 0 q)) i)
  z i q := X0_0 m c t (ix2 i q)
  h q p n := (B4 m c t) (ix5 0 0 q p n)
  dsk q := (B13 m c t) (ix2 0 q)
  nw q := (B14 m c t) (ix2 0 q)

/-- What the point's value needs: the spreading matrix, and step sizes and running sums below the top. -/
structure Ok (c : Dev nD) (t : Fin cfg0.N) : Prop where
  E : Spreads (B15 m c t)
  dt : ∀ j h, (CK m c t).dt j h ≠ ⊤
  ac : ∀ i h, (CK m c t).ac i h ≠ ⊤

/-- The point's convolved inputs are the chunk's. -/
theorem XS_apply (c : Dev nD) (t : Fin cfg0.N) (i : Fin 8) (q : Fin 2048) : XS m c t (ix2 ⟨i.val, by omega⟩ q) = (CK m c t).x i q := cx_apply ..

/-- The point's convolved B and C are the chunk's. -/
theorem BC_apply (c : Dev nD) (t : Fin cfg0.N) (i : Fin 8) (q : Fin 1024) : BC m c t (ix2 ⟨i.val, by omega⟩ q) = (CK m c t).bc i q := cc_apply ..

/-- The first eight of the padded gate rows are the block's rows. -/
theorem Z_apply (u : Vec Ideal S8x2048 .f32) (i : Fin 8) (q : Fin 2048) : k0_pay86 (F := Ideal) u (ix2 ⟨i.val, by omega⟩ q) = u (ix2 i q) := by
  pointwise [k0_pay86]

/-- The kernel's running sums. -/
theorem AC_apply (c : Dev nD) (t : Fin cfg0.N) (i : Fin 8) (h : Fin 32) :
    AC m c t 0#32 (ix2 ⟨i.val, by omega⟩ ⟨64 + h.val, by omega⟩) = (CK m c t).ac i h := Am_low ..

/-- The running sums, turned, are the chunk's running sums. -/
theorem AT_apply (c : Dev nD) (t : Fin cfg0.N) (i : Fin 8) (h : Fin 32) :
    AT m c t 0#32 (ix2 ⟨64 + h.val, by omega⟩ ⟨i.val, by omega⟩) = (CK m c t).ac i h := (at_apply ..).trans (Am_low ..)

/-- The weighted inputs of the eight rows. -/
theorem XD_low (c : Dev nD) (t : Fin cfg0.N) (ok : Ok m c t) (j : Fin 8) (q : Fin 2048) :
    XD m c t 0#32 (ix2 ⟨j.val, by omega⟩ q) = (CK m c t).x j q * (CK m c t).dt j (hl q) := by
  have e : Dm (B3 m c t) (B11 m c t) (ix2 ⟨j.val, by omega⟩ ⟨64 + q.val / 64, by omega⟩) = (CK m c t).dt j (hl q) := Dm_low _ _ _ _ (by exact j.isLt)
  refine (xd_apply (XS m c t) _ _ (B12 m c t) _ ok.E ⟨j.val, by omega⟩ q (by rw [e]; exact ok.dt j (hl q))).trans ?_
  rw [e, XS_apply]

/-- The weighted inputs of the later rows are zero. -/
theorem XD_high (c : Dev nD) (t : Fin cfg0.N) (ok : Ok m c t) (j : Fin 128) (h : 8 ≤ j.val) (q : Fin 2048) : XD m c t 0#32 (ix2 j q) = 0 := by
  have e : Dm (B3 m c t) (B11 m c t) (ix2 j ⟨64 + q.val / 64, by omega⟩) = 0 := Dm_high _ _ _ _ h
  refine (xd_apply (XS m c t) _ _ (B12 m c t) _ ok.E j q (by rw [e]; exact EReal.zero_ne_top)).trans ?_
  rw [e, mul_zero]

/-- The spread running sums of the eight rows. -/
theorem acx_low (c : Dev nD) (t : Fin cfg0.N) (ok : Ok m c t) (i : Fin 8) (q : Fin 2048) :
    k0_pay97 (EX m c t 0#32) (ix2 ⟨i.val, by omega⟩ q) = (CK m c t).ac i (hl q) := by
  have e : Am (B3 m c t) (B11 m c t) (B12 m c t) (ix2 ⟨i.val, by omega⟩ ⟨64 + q.val / 64, by omega⟩) = (CK m c t).ac i (hl q) := Am_low ..
  exact (acx_apply _ _ _ _ ok.E ⟨i.val, by omega⟩ q (by rw [e]; exact ok.ac i (hl q))).trans e

/-- The last spread running sum. -/
theorem acx_last (c : Dev nD) (t : Fin cfg0.N) (ok : Ok m c t) (q : Fin 2048) :
    k0_pay97 (EX m c t 0#32) (ix2 127 q) = (CK m c t).ac 7 (hl q) := by
  have e : Am (B3 m c t) (B11 m c t) (B12 m c t) (ix2 127 ⟨64 + q.val / 64, by omega⟩) = (CK m c t).ac 7 (hl q) := Am_last ..
  exact (acx_apply _ _ _ _ ok.E 127 q (by rw [e]; exact ok.ac 7 (hl q))).trans e

/-- A score in the kernel. -/
theorem sc_eq (c : Dev nD) (t : Fin cfg0.N) (g : Fin 4) (i j : Fin 8) :
    cbm g (BC m c t) (ix2 ⟨i.val, by omega⟩ ⟨j.val, by omega⟩) = (CK m c t).sc g i j := by
  rw [cbm_apply]
  unfold Ck.sc
  refine Finset.sum_congr rfl fun n _ => ?_
  rw [BC_apply, BC_apply]

/-- A head's part from the chunk's own rows, in the kernel. -/
theorem intra_eq (c : Dev nD) (t : Fin cfg0.N) (ok : Ok m c t) (g : Fin 4) (h : Fin 32) (p : Fin 64) (i : Fin 8) :
    hd h k0_pay91 (AC m c t 0#32) (AT m c t 0#32) (XD m c t 0#32) (cbm g (BC m c t)) (ix2 ⟨i.val, by omega⟩ p) = (CK m c t).intra g h p i := by
  unfold Ck.intra
  rw [hd_apply, sum_low]
  · refine Finset.sum_congr rfl fun j _ => ?_
    have e : hl ⟨64 * h.val + p.val, by omega⟩ = h := Fin.ext (by show (64 * h.val + p.val) / 64 = h.val; omega)
    rw [cz_sel, AC_apply, AT_apply, XD_low m c t ok, sc_eq, e]
  · intro x hx
    rw [XD_high m c t ok x hx, mul_zero]

/-- The entry state against an output projection's row, in the kernel. -/
theorem ch_eq (c : Dev nD) (t : Fin cfg0.N) (g : Fin 4) (e : Fin 8) (p : Fin 64) (i : Fin 8) :
    ∑ n : Fin 128, BC m c t (ix2 ⟨i.val, by omega⟩ ⟨512 + 128 * g.val + n.val, by omega⟩) * ini (HX m c t) g (ix3 0 n ⟨64 * e.val + p.val, by omega⟩)
      = ∑ n : Fin 128, (CK m c t).bc i ⟨512 + 128 * g.val + n.val, by omega⟩ * (CK m c t).h (hq g e) p n := by
  refine Finset.sum_congr rfl fun n _ => ?_
  rw [BC_apply, ini_apply, HX_eq]
  rfl

/-- A head's part from the entry state, in the kernel. -/
theorem inter_eq (c : Dev nD) (t : Fin cfg0.N) (ok : Ok m c t) (g : Fin 4) (e : Fin 8) (p : Fin 64) (i : Fin 8) :
    inter g (BC m c t) (k0_pay101 (EX m c t 0#32)) (ini (HX m c t) g) (ix2 ⟨i.val, by omega⟩ ⟨64 * e.val + p.val, by omega⟩) = (CK m c t).inter g (hq g e) p i := by
  unfold Ck.inter
  have e' : hl ⟨512 * g.val + (64 * e.val + p.val), by omega⟩ = hq g e := Fin.ext (by show (512 * g.val + (64 * e.val + p.val)) / 64 = 8 * g.val + e.val; omega)
  rw [inter_apply, ea_apply, acx_low m c t ok, e', ch_eq]

/-- A group's output in the kernel. -/
theorem grp_eq (c : Dev nD) (t : Fin cfg0.N) (ok : Ok m c t) (g : Fin 4) (e : Fin 8) (p : Fin 64) (i : Fin 8) :
    GR m c t 0#32 g (ini (HX m c t) g) (ix2 ⟨i.val, by omega⟩ ⟨64 * e.val + p.val, by omega⟩) = (CK m c t).inter g (hq g e) p i + (CK m c t).intra g (hq g e) p i := by
  unfold GR
  rw [grp_apply, inter_eq m c t ok, intra_eq m c t ok]

/-- The point's gated rows before the norm. -/
def GT (c : Dev nD) (t : Fin cfg0.N) : FVec Ideal S128x2048 .f32 :=
  gated (XS m c t) (k0_pay86 (X0_0 m c t)) (fun g => GR m c t 0#32 g (ini (HX m c t) g)) (B13 m c t)

/-- The gated rows hold what the chunk's formula says. -/
theorem GT_apply (c : Dev nD) (t : Fin cfg0.N) (ok : Ok m c t) (i : Fin 8) (q : Fin 2048) : GT m c t (ix2 ⟨i.val, by omega⟩ q) = (CK m c t).y i q := by
  obtain ⟨g, e, p, rfl⟩ : ∃ (g : Fin 4) (e : Fin 8) (p : Fin 64), q = ⟨512 * g.val + (64 * e.val + p.val), by omega⟩ :=
    ⟨⟨q.val / 512, by omega⟩, ⟨q.val / 64 % 8, by omega⟩, ⟨q.val % 64, by omega⟩, Fin.ext (by show q.val = 512 * (q.val / 512) + (64 * (q.val / 64 % 8) + q.val % 64); omega)⟩
  have eg : gl ⟨512 * g.val + (64 * e.val + p.val), by omega⟩ = g := Fin.ext (by show (512 * g.val + (64 * e.val + p.val)) / 512 = g.val; omega)
  have eh : hl ⟨512 * g.val + (64 * e.val + p.val), by omega⟩ = hq g e := Fin.ext (by show (512 * g.val + (64 * e.val + p.val)) / 64 = 8 * g.val + e.val; omega)
  have ep : pl ⟨512 * g.val + (64 * e.val + p.val), by omega⟩ = p := Fin.ext (by show (512 * g.val + (64 * e.val + p.val)) % 64 = p.val; omega)
  unfold Ck.y GT
  rw [eg, eh, ep, ← grp_eq m c t ok]
  refine (gated_apply _ _ _ _ _ g ⟨64 * e.val + p.val, by omega⟩).trans ?_
  rw [XS_apply, Z_apply]
  rfl

/-- The point's first output, row by row. -/
theorem out1_apply (c : Dev nD) (t : Fin cfg0.N) (ok : Ok m c t) (i : Fin 8) (q : Fin 2048) : (outsAt0 m c t).1 (ix2 i q) = (CK m c t).out i q := by
  have e : (outsAt0 m c t).1 = k0_pay1 (k0_pay163 (GT m c t)) (B14 m c t) := by
    rw [out1_eq, rd_M0, rd_M1, rd_M2, rd_M3, v1_eq]
    unfold GT
    refine congrArg (fun G => k0_pay1 (k0_pay163 (gated (XS m c t) (k0_pay86 (X0_0 m c t)) G (B13 m c t))) (B14 m c t)) (funext fun g => ?_)
    fin_cases g <;> rfl
  rw [e]
  obtain ⟨g, k, rfl⟩ : ∃ (g : Fin 4) (k : Fin 512), q = ⟨512 * g.val + k.val, by omega⟩ :=
    ⟨⟨q.val / 512, by omega⟩, ⟨q.val % 512, by omega⟩, Fin.ext (by show q.val = 512 * (q.val / 512) + q.val % 512; omega)⟩
  have eg : gl ⟨512 * g.val + k.val, by omega⟩ = g := Fin.ext (by show (512 * g.val + k.val) / 512 = g.val; omega)
  rw [norm_apply, ng_apply]
  unfold Ck.out
  rw [GT_apply m c t ok]
  simp only [GT_apply m c t ok, eg]
  rfl

/-- An input row's share of the state, in the kernel. -/
theorem up_eq (c : Dev nD) (t : Fin cfg0.N) (ok : Ok m c t) (j : Fin 8) (q : Fin 2048) :
    XW m c t 0#32 (ix2 ⟨j.val, by omega⟩ q) = (CK m c t).x j q * (CK m c t).dt j (hl q) * Ideal.exp ((CK m c t).ac 7 (hl q) - (CK m c t).ac j (hl q)) := by
  rw [← XD_low m c t ok, ← acx_last m c t ok, ← acx_low m c t ok]
  exact xw_apply ..

/-- The later rows share nothing. -/
theorem up_high (c : Dev nD) (t : Fin cfg0.N) (ok : Ok m c t) (j : Fin 128) (h : 8 ≤ j.val) (q : Fin 2048) : XW m c t 0#32 (ix2 j q) = 0 := by
  refine (xw_apply ..).trans ?_
  have e0 := XD_high m c t ok j h q
  unfold XD at e0
  rw [e0, zero_mul]

/-- A group's state after the point at the group's head `e`. -/
theorem NS_apply (c : Dev nD) (t : Fin cfg0.N) (ok : Ok m c t) (g : Fin 4) (e : Fin 8) (p : Fin 64) (n : Fin 128) :
    NS m c t 0#32 g (ix3 0 n ⟨64 * e.val + p.val, by omega⟩)
      = (CK m c t).h (hq g e) p n * Ideal.exp ((CK m c t).ac 7 (hq g e))
        + ∑ j : Fin 8, (CK m c t).bc j ⟨128 * g.val + n.val, by omega⟩ * ((CK m c t).x j ⟨64 * (hq g e).val + p.val, by omega⟩ * (CK m c t).dt j (hq g e)
          * Ideal.exp ((CK m c t).ac 7 (hq g e) - (CK m c t).ac j (hq g e))) := by
  have e' : hl ⟨512 * g.val + (64 * e.val + p.val), by omega⟩ = hq g e := Fin.ext (by show (512 * g.val + (64 * e.val + p.val)) / 64 = 8 * g.val + e.val; omega)
  have el : (⟨512 * g.val + (64 * e.val + p.val), by omega⟩ : Fin 2048) = ⟨64 * (hq g e).val + p.val, by omega⟩ :=
    Fin.ext (by show 512 * g.val + (64 * e.val + p.val) = 64 * (8 * g.val + e.val) + p.val; omega)
  have hs : ∑ j : Fin 128, BC m c t (ix2 j ⟨128 * g.val + n.val, by omega⟩) * XW m c t 0#32 (ix2 j ⟨512 * g.val + (64 * e.val + p.val), by omega⟩)
      = ∑ j : Fin 8, (CK m c t).bc j ⟨128 * g.val + n.val, by omega⟩ * ((CK m c t).x j ⟨64 * (hq g e).val + p.val, by omega⟩ * (CK m c t).dt j (hq g e)
          * Ideal.exp ((CK m c t).ac 7 (hq g e) - (CK m c t).ac j (hq g e))) := by
    rw [sum_low]
    · refine Finset.sum_congr rfl fun j _ => ?_
      rw [BC_apply, up_eq m c t ok, e', el]
    · intro x hx
      rw [up_high m c t ok x hx, mul_zero]
  have hh : ini (HX m c t) g (ix3 0 n ⟨64 * e.val + p.val, by omega⟩) = (CK m c t).h (hq g e) p n := by
    rw [ini_apply, HX_eq]
    rfl
  unfold NS
  rw [nst_apply, hs, hh, el_apply, acx_last m c t ok, e']

/-- The point's second output, head by head. -/
theorem out2_st (c : Dev nD) (t : Fin cfg0.N) (ok : Ok m c t) (h : Fin 32) (p : Fin 64) (n : Fin 128) :
    (outsAt0 m c t).2 (ix5 0 0 h p n) = (CK m c t).st h p n := by
  have ek : (⟨128 * (h.val % 8 / 2) + (64 * (h.val % 2) + p.val), by omega⟩ : Fin 512) = ⟨64 * (⟨h.val % 8, by omega⟩ : Fin 8).val + p.val, by show 64 * (h.val % 8) + p.val < 512; omega⟩ :=
    Fin.ext (by show 128 * (h.val % 8 / 2) + (64 * (h.val % 2) + p.val) = 64 * (h.val % 8) + p.val; omega)
  have eq : hq (gq h) ⟨h.val % 8, by omega⟩ = h := Fin.ext (by show 8 * (h.val / 8) + h.val % 8 = h.val; omega)
  have key := NS_apply m c t ok (gq h) ⟨h.val % 8, by omega⟩ p n
  simp only [eq] at key
  unfold Ck.st
  rw [out2_apply, hp_apply, v1_eq, ek, key]

end Cert.Ssd
-- ==== Proof.SsdF.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdE
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen

variable (m : (ℓ : Loc nD τ sig) → Buf (Elt Ideal) ℓ)

/-- The block positions of the windows that move with the sequence. -/
theorem idx0 : ∀ t : Fin cfg0.N, win0_0.index t = ![2112 + t.val, 0] ∧ win0_1.index t = ![2112 + t.val, 1] ∧ win0_2.index t = ![2112 + t.val, 4] ∧ win0_3.index t = ![2112 + t.val, 72] ∧ win0_4.index t = ![0, t.val, 0, 0, 0] ∧ win0_5.index t = ![t.val, 0, 0] ∧ win0_6.index t = ![t.val, 0, 0] ∧ win0_16.index t = ![t.val, 0] ∧ win0_17.index t = ![0, t.val, 0, 0, 0] :=
  (by decide +kernel : ∀ t : Fin grid0.N, win0_0.index t = ![2112 + t.val, 0] ∧ win0_1.index t = ![2112 + t.val, 1] ∧ win0_2.index t = ![2112 + t.val, 4] ∧ win0_3.index t = ![2112 + t.val, 72] ∧ win0_4.index t = ![0, t.val, 0, 0, 0] ∧ win0_5.index t = ![t.val, 0, 0] ∧ win0_6.index t = ![t.val, 0, 0] ∧ win0_16.index t = ![t.val, 0] ∧ win0_17.index t = ![0, t.val, 0, 0, 0])

/-- The other windows' blocks are the whole arrays. -/
theorem idxw : ∀ t : Fin cfg0.N, win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0])

/-- Window 0's block is rows of the regrouped projections. -/
theorem z_read (c : Dev nD) (t : Fin cfg0.N) (i : Fin 8) (q : Fin 2048) :
    (X0_0 m c t) (ix2 i q) = (V m c main_v8 : Vec Ideal S17152x9728 .f32) (ix2 ⟨16896 + 8 * t.val + i.val, by have := t.isLt; have : cfg0.N = 32 := rfl; omega⟩ ⟨0 + q.val, by omega⟩) := by
  unfold X0_0 Pipeline.Window.fill
  rw [dif_pos (moved0_0 t _)]
  blk_ext [iblk, (idx0 t).1]

/-- Window 1's block is rows of the regrouped projections. -/
theorem x_read (c : Dev nD) (t : Fin cfg0.N) (i : Fin 8) (q : Fin 2048) :
    (X0_1 m c t) (ix2 i q) = (V m c main_v8 : Vec Ideal S17152x9728 .f32) (ix2 ⟨16896 + 8 * t.val + i.val, by have := t.isLt; have : cfg0.N = 32 := rfl; omega⟩ ⟨2048 + q.val, by omega⟩) := by
  unfold X0_1 Pipeline.Window.fill
  rw [dif_pos (moved0_1 t _)]
  blk_ext [iblk, (idx0 t).2.1]

/-- Window 2's block is rows of the regrouped projections. -/
theorem bc_read (c : Dev nD) (t : Fin cfg0.N) (i : Fin 8) (q : Fin 1024) :
    (X0_2 m c t) (ix2 i q) = (V m c main_v8 : Vec Ideal S17152x9728 .f32) (ix2 ⟨16896 + 8 * t.val + i.val, by have := t.isLt; have : cfg0.N = 32 := rfl; omega⟩ ⟨4096 + q.val, by omega⟩) := by
  unfold X0_2 Pipeline.Window.fill
  rw [dif_pos (moved0_2 t _)]
  blk_ext [iblk, (idx0 t).2.2.1]

/-- Window 3's block is rows of the regrouped projections. -/
theorem dt_read (c : Dev nD) (t : Fin cfg0.N) (i : Fin 8) (q : Fin 128) :
    (B3 m c t) (ix2 i q) = (V m c main_v8 : Vec Ideal S17152x9728 .f32) (ix2 ⟨16896 + 8 * t.val + i.val, by have := t.isLt; have : cfg0.N = 32 := rfl; omega⟩ ⟨9216 + q.val, by omega⟩) := by
  unfold B3
  blk_ext [iblk, (idx0 t).2.2.2.1]

/-- Window 4's block is the entry state of the sequence in the first layer. -/
theorem h_read (c : Dev nD) (t : Fin cfg0.N) (h : Fin 32) (p : Fin 64) (n : Fin 128) :
    (B4 m c t) (ix5 0 0 h p n) = (m (c.tc.loc main_arg2) : Vec Ideal S2x32x32x64x128 .f32) (ix5 0 ⟨t.val, t.isLt⟩ h p n) := by
  unfold B4
  blk_ext [iblk, V, (idx0 t).2.2.2.2.1]

/-- Window 5's block is the sequence's three earlier rows. -/
theorem b5_read (c : Dev nD) (t : Fin cfg0.N) (j : Fin 3) (q : Fin 2048) :
    (B5 m c t) (ix3 0 j q) = (V m c main_v42 : Vec Ideal S32x3x2048 .f32) (ix3 ⟨t.val, t.isLt⟩ j q) := by
  unfold B5
  blk_ext [iblk, (idx0 t).2.2.2.2.2.1]

/-- Window 6's block is the sequence's three earlier rows. -/
theorem b6_read (c : Dev nD) (t : Fin cfg0.N) (j : Fin 3) (q : Fin 1024) :
    (B6 m c t) (ix3 0 j q) = (V m c main_v43 : Vec Ideal S32x3x1024 .f32) (ix3 ⟨t.val, t.isLt⟩ j q) := by
  unfold B6
  blk_ext [iblk, (idx0 t).2.2.2.2.2.2.1]

/-- Window 7's block is its whole array. -/
theorem b7_read (c : Dev nD) (t : Fin cfg0.N) (k : Fin 4) (q : Fin 2048) :
    (B7 m c t) (ix2 k q) = (V m c main_v20 : Vec Ideal S4x2048 .f32) (ix2 k q) := by
  unfold B7
  blk_ext [iblk, (idxw t).1]

/-- Window 8's block is its whole array. -/
theorem b8_read (c : Dev nD) (t : Fin cfg0.N) (k : Fin 1) (q : Fin 2048) :
    (B8 m c t) (ix2 k q) = (V m c main_v22 : Vec Ideal S1x2048 .f32) (ix2 k q) := by
  unfold B8
  blk_ext [iblk, (idxw t).2.1]

/-- Window 9's block is its whole array. -/
theorem b9_read (c : Dev nD) (t : Fin cfg0.N) (k : Fin 4) (q : Fin 1024) :
    (B9 m c t) (ix2 k q) = (V m c main_v23 : Vec Ideal S4x1024 .f32) (ix2 k q) := by
  unfold B9
  blk_ext [iblk, (idxw t).2.2.1]

/-- Window 10's block is its whole array. -/
theorem b10_read (c : Dev nD) (t : Fin cfg0.N) (k : Fin 1) (q : Fin 1024) :
    (B10 m c t) (ix2 k q) = (V m c main_v25 : Vec Ideal S1x1024 .f32) (ix2 k q) := by
  unfold B10
  blk_ext [iblk, (idxw t).2.2.2.1]

/-- Window 11's block is its whole array. -/
theorem b11_read (c : Dev nD) (t : Fin cfg0.N) (k : Fin 1) (q : Fin 128) :
    (B11 m c t) (ix2 k q) = (V m c main_v30 : Vec Ideal S1x128 .f32) (ix2 k q) := by
  unfold B11
  blk_ext [iblk, (idxw t).2.2.2.2.1]

/-- Window 12's block is its whole array. -/
theorem b12_read (c : Dev nD) (t : Fin cfg0.N) (k : Fin 1) (q : Fin 128) :
    (B12 m c t) (ix2 k q) = (V m c main_v37 : Vec Ideal S1x128 .f32) (ix2 k q) := by
  unfold B12
  blk_ext [iblk, (idxw t).2.2.2.2.2.1]

/-- Window 13's block is its whole array. -/
theorem b13_read (c : Dev nD) (t : Fin cfg0.N) (k : Fin 1) (q : Fin 2048) :
    (B13 m c t) (ix2 k q) = (V m c main_v40 : Vec Ideal S1x2048 .f32) (ix2 k q) := by
  unfold B13
  blk_ext [iblk, (idxw t).2.2.2.2.2.2.1]

/-- Window 14's block is its whole array. -/
theorem b14_read (c : Dev nD) (t : Fin cfg0.N) (k : Fin 1) (q : Fin 2048) :
    (B14 m c t) (ix2 k q) = (V m c main_v41 : Vec Ideal S1x2048 .f32) (ix2 k q) := by
  unfold B14
  blk_ext [iblk, (idxw t).2.2.2.2.2.2.2.1]

/-- Window 15's block is its whole array. -/
theorem b15_read (c : Dev nD) (t : Fin cfg0.N) (k : Fin 128) (q : Fin 2048) :
    (B15 m c t) (ix2 k q) = (V m c main_v19 : Vec Ideal S128x2048 .bf16) (ix2 k q) := by
  unfold B15
  blk_ext [iblk, (idxw t).2.2.2.2.2.2.2.2]

/-- What the host computes for this operand, read off its argument. -/
theorem v20_entry (c : Dev nD) (k : Fin 4) (q : Fin 2048) : (V m c main_v20 : Vec Ideal S4x2048 .f32) (ix2 k q) = (m (c.tc.loc main_arg5) : Vec Ideal S4x3072 .f32) (ix2 k ⟨q.val, by omega⟩) := by
  unfold V hostOps0 hostOps0_1 hostOps0_2
  simp only [List.flatten_cons, List.flatten_nil, List.cons_append, List.nil_append, List.append_nil]
  after_results
  pointwise

/-- What the host computes for this operand, read off its argument. -/
theorem v22_entry (c : Dev nD) (q : Fin 2048) : (V m c main_v22 : Vec Ideal S1x2048 .f32) (ix2 0 q) = (m (c.tc.loc main_arg6) : Vec Ideal S3072 .f32) (ix1 ⟨q.val, by omega⟩) := by
  unfold V hostOps0 hostOps0_1 hostOps0_2
  simp only [List.flatten_cons, List.flatten_nil, List.cons_append, List.nil_append, List.append_nil]
  after_results
  pointwise

/-- What the host computes for this operand, read off its argument. -/
theorem v23_entry (c : Dev nD) (k : Fin 4) (q : Fin 1024) : (V m c main_v23 : Vec Ideal S4x1024 .f32) (ix2 k q) = (m (c.tc.loc main_arg5) : Vec Ideal S4x3072 .f32) (ix2 k ⟨2048 + q.val, by omega⟩) := by
  unfold V hostOps0 hostOps0_1 hostOps0_2
  simp only [List.flatten_cons, List.flatten_nil, List.cons_append, List.nil_append, List.append_nil]
  after_results
  pointwise

/-- What the host computes for this operand, read off its argument. -/
theorem v25_entry (c : Dev nD) (q : Fin 1024) : (V m c main_v25 : Vec Ideal S1x1024 .f32) (ix2 0 q) = (m (c.tc.loc main_arg6) : Vec Ideal S3072 .f32) (ix1 ⟨2048 + q.val, by omega⟩) := by
  unfold V hostOps0 hostOps0_1 hostOps0_2
  simp only [List.flatten_cons, List.flatten_nil, List.cons_append, List.nil_append, List.append_nil]
  after_results
  pointwise

/-- What the host computes for this operand, read off its argument. -/
theorem v41_entry (c : Dev nD) (q : Fin 2048) : (V m c main_v41 : Vec Ideal S1x2048 .f32) (ix2 0 q) = (m (c.tc.loc main_arg10) : Vec Ideal S2048 .f32) (ix1 q) := by
  unfold V hostOps0 hostOps0_1 hostOps0_2
  simp only [List.flatten_cons, List.flatten_nil, List.cons_append, List.nil_append, List.append_nil]
  after_results
  pointwise

/-- What the host computes for this operand, read off its argument. -/
theorem v40_entry (c : Dev nD) (q : Fin 2048) : (V m c main_v40 : Vec Ideal S1x2048 .f32) (ix2 0 q) = (m (c.tc.loc main_arg9) : Vec Ideal S32 .f32) (ix1 (hl q)) := by
  unfold V hostOps0 hostOps0_1 hostOps0_2
  simp only [List.flatten_cons, List.flatten_nil, List.cons_append, List.nil_append, List.append_nil]
  after_results
  pointwise
  rfl

/-- What the host computes for this operand, read off its argument. -/
theorem v42_entry (c : Dev nD) (s : Fin 32) (k : Fin 3) (q : Fin 2048) : (V m c main_v42 : Vec Ideal S32x3x2048 .f32) (ix3 s k q) = (m (c.tc.loc main_arg4) : Vec Ideal S32x3x3072 .f32) (ix3 s k ⟨q.val, by omega⟩) := by
  unfold V hostOps0 hostOps0_1 hostOps0_2
  simp only [List.flatten_cons, List.flatten_nil, List.cons_append, List.nil_append, List.append_nil]
  after_results
  pointwise

/-- What the host computes for this operand, read off its argument. -/
theorem v43_entry (c : Dev nD) (s : Fin 32) (k : Fin 3) (q : Fin 1024) : (V m c main_v43 : Vec Ideal S32x3x1024 .f32) (ix3 s k q) = (m (c.tc.loc main_arg4) : Vec Ideal S32x3x3072 .f32) (ix3 s k ⟨2048 + q.val, by omega⟩) := by
  unfold V hostOps0 hostOps0_1 hostOps0_2
  simp only [List.flatten_cons, List.flatten_nil, List.cons_append, List.nil_append, List.append_nil]
  after_results
  pointwise

/-- All rows' projections: the prompt's, then the samples'. -/
def allp (xp : Vec Ideal S16896x9320 .f32) (xs : Vec Ideal S256x9320 .f32) : Vec Ideal S17152x9320 .f32 :=
  concatenate S17152x9320 0 [⟨S16896x9320, xp⟩, ⟨S256x9320, xs⟩] concatenates_S16896x9320_S256x9320_S17152x9320_d0

/-- The projections the call is given: prompts and samples joined, columns regrouped. -/
theorem v8_entry (c : Dev nD) :
    (V m c main_v8 : Vec Ideal S17152x9728 .f32) = Mix.pcat (allp (m (c.tc.loc main_arg0)) (m (c.tc.loc main_arg1))) := by
  unfold V hostOps0 hostOps0_1 hostOps0_2
  simp only [List.flatten_cons, List.flatten_nil, List.cons_append, List.nil_append, List.append_nil]
  after_results
  rfl

/-- A sample's row of all rows' projections. -/
theorem allp_apply (xp : Vec Ideal S16896x9320 .f32) (xs : Vec Ideal S256x9320 .f32) (r : Fin 256) (q : Fin 9320) :
    allp xp xs (ix2 ⟨16896 + r.val, by omega⟩ q) = xs (ix2 r q) := by
  unfold allp
  pointwise

/-- The place a head's number is put at. -/
def i29 : IVec S2 32 := concatenate S2 0 [⟨S1, broadcastInDim S1 ![] bcast_S_S1 (constantI S_ 32 0#32)⟩, ⟨S1, broadcastInDim S1 ![] bcast_S_S1 (constantI S_ 32 64#32)⟩] concatenates_S1_S1_S2_d0

/-- Where each of the 32 heads' values lands in the row of 128. -/
theorem lands : ∀ k : Fin 32, scatter_S1x128_S2_S32_0_0_01_0.resultIdx? (ix1 k) i29 = some (ix2 0 ⟨64 + k.val, by omega⟩) := by
  decide +kernel

/-- Thirty-two numbers put at lanes 64 to 95. -/
theorem put_apply (x : Vec Ideal S1x128 .f32) (u : Vec Ideal S32 .f32) (h : Fin 32) :
    Host.scatter scatter_S1x128_S2_S32_0_0_01_0 (fun _ b => b) x i29 u (ix2 0 ⟨64 + h.val, by omega⟩) = u (ix1 h) := by
  refine Routing.scatter_set_hit _ x i29 u _ _ (fun k hk => ?_) (ix1 h) (lands h)
  obtain ⟨k, rfl⟩ : ∃ a : Fin 32, k = ix1 a := ⟨k 0, eq_ix1 (n0 := 32) k⟩
  have e := Option.some.inj ((lands k).symm.trans hk)
  have e1 : (⟨64 + k.val, by omega⟩ : Fin 128) = ⟨64 + h.val, by omega⟩ := congrFun e 1
  have e2 : 64 + k.val = 64 + h.val := congrArg Fin.val e1
  exact congrArg (fun a => u (ix1 a)) (Fin.ext (by omega))

/-- The time step's bias the call is given, at a head's column. -/
theorem v30_entry (c : Dev nD) (h : Fin 32) :
    (V m c main_v30 : Vec Ideal S1x128 .f32) (ix2 0 ⟨64 + h.val, by omega⟩) = (m (c.tc.loc main_arg7) : Vec Ideal S32 .f32) (ix1 h) := by
  refine Eq.trans ?_ (put_apply (broadcastInDim S1x128 ![] bcast_S_S1x128 (constant (F := Ideal) S_ FTy.f32 0#32)) (m (c.tc.loc main_arg7)) h)
  unfold V hostOps0 hostOps0_1 hostOps0_2
  simp only [List.flatten_cons, List.flatten_nil, List.cons_append, List.nil_append, List.append_nil]
  after_results
  rfl

/-- The decay rate the call is given, at a head's column. -/
theorem v37_entry (c : Dev nD) (h : Fin 32) :
    (V m c main_v37 : Vec Ideal S1x128 .f32) (ix2 0 ⟨64 + h.val, by omega⟩) = -Ideal.exp ((m (c.tc.loc main_arg8) : Vec Ideal S32 .f32) (ix1 h)) := by
  refine Eq.trans ?_ (put_apply (broadcastInDim S1x128 ![] bcast_S_S1x128 (constant (F := Ideal) S_ FTy.f32 0#32)) (Host.negf (F := Ideal) (φ := .f32) (Host.exp (F := Ideal) (φ := .f32) (m (c.tc.loc main_arg8) : Vec Ideal S32 .f32))) h)
  unfold V hostOps0 hostOps0_1 hostOps0_2
  simp only [List.flatten_cons, List.flatten_nil, List.cons_append, List.nil_append, List.append_nil]
  after_results
  rfl

/-- Floor division by 64 of the lane numbers, as the host computes it. -/
def fd : IVec S2048 32 :=
  select (andi (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32)))
    (Host.divsi (iotaInDim S2048 32 0) (broadcastInDim S2048 ![] bcast_S_S2048 (constantI S_ 32 64#32)))

/-- The host's spreading matrix. -/
def spr : Vec Ideal S128x2048 .bf16 :=
  uitofp (F := Ideal) .bf16 (cmpi .eq (broadcastInDim S128x2048 ![0, 1] bcast_S128x1_S128x2048_0_1 (broadcastInDim S128x1 ![0] bcast_S128_S128x1_0 (iotaInDim S128 32 0)))
    (broadcastInDim S128x2048 ![0, 1] bcast_S1x2048_S128x2048_0_1 (broadcastInDim S1x2048 ![1] bcast_S2048_S1x2048_1
      (addi (broadcastInDim S2048 ![] bcast_S_S2048 (constantI S_ 32 64#32)) fd))))

/-- The head of each channel. -/
theorem fd_apply : ∀ q : Fin 2048, fd (ix1 q) = BitVec.ofNat 32 (q.val / 64) := by
  decide +kernel

/-- The spreading matrix the call is given. -/
theorem v19_entry (c : Dev nD) : (V m c main_v19 : Vec Ideal S128x2048 .bf16) = spr := by
  unfold V hostOps0 hostOps0_1 hostOps0_2
  simp only [List.flatten_cons, List.flatten_nil, List.cons_append, List.nil_append, List.append_nil]
  after_results
  rfl

/-- The spreading matrix: one where the row is the lane of the column's head. -/
theorem spr_apply : Spreads spr := by
  intro l q
  have key : spr (ix2 l q) = (((BitVec.ofBool (BitVec.ofNat 32 l.val == 64#32 + BitVec.ofNat 32 (q.val / 64))).toNat : ℝ) : EReal) := by
    rw [← fd_apply]
    rfl
  rw [key]
  have hl := l.isLt
  have hq := q.isLt
  by_cases h : l.val = 64 + q.val / 64
  · rw [if_pos h, h, BitVec.ofNat_add]
    simp
  · rw [if_neg h, beq_eq_false_iff_ne.2 (fun e => h ?_)]
    · simp
    · have := congrArg BitVec.toNat e
      simp at this
      omega

/-- A sample's column in the regrouped projections. -/
theorem v8_at (c : Dev nD) (r : Fin 256) (n : Fin 9728) (q : Fin 9320) (h : ∀ f : Fin 9320 → EReal, InProj.pick f n = f q) :
    (V m c main_v8 : Vec Ideal S17152x9728 .f32) (ix2 ⟨16896 + r.val, by omega⟩ n) = (m (c.tc.loc main_arg1) : Vec Ideal S256x9320 .f32) (ix2 r q) :=
  (congrFun (v8_entry m c) _).trans ((Mix.pcat_apply _ _ _).trans ((h _).trans (allp_apply _ _ _ _)))

/-- The row of a sample. -/
def srow (s : Fin 32) (i : Fin 8) : Fin 256 := ⟨8 * s.val + i.val, by omega⟩

/-- Two chunks with the same parts are the same. -/
theorem ck_ext {K K' : Ck} (e1 : K.dt = K'.dt) (e2 : K.a = K'.a) (e3 : K.x = K'.x) (e4 : K.bc = K'.bc) (e5 : K.z = K'.z) (e6 : K.h = K'.h) (e7 : K.dsk = K'.dsk)
    (e8 : K.nw = K'.nw) : K = K' := by
  cases K
  cases K'
  cases e1; cases e2; cases e3; cases e4; cases e5; cases e6; cases e7; cases e8
  rfl

/-- The exponential is never negative. -/
theorem exp_nonneg' (x : EReal) : 0 ≤ Ideal.exp x := by
  induction x with
  | bot => exact le_rfl
  | top => exact le_top
  | coe r => exact EReal.coe_nonneg.2 (Real.exp_pos r).le

/-- The logarithm of a number at least one is not negative. -/
theorem log_nonneg' {x : EReal} (h : 1 ≤ x) : 0 ≤ Ideal.log x := by
  induction x with
  | bot => exact absurd h (not_le_of_gt (EReal.bot_lt_coe 1))
  | top => exact le_top
  | coe r =>
    have h1 : (1 : ℝ) ≤ r := by exact_mod_cast h
    rw [Ideal.log_coe, if_neg (by linarith)]
    exact EReal.coe_nonneg.2 (Real.log_nonneg h1)

/-- A step size is at least zero. -/
theorem sp_nonneg (x : EReal) : 0 ≤ sp x := by
  unfold sp Ideal.log1p
  refine add_nonneg (le_max_right _ _) ?_
  refine log_nonneg' ?_
  exact le_add_of_nonneg_right (exp_nonneg' _)

/-- The negated exponential is never positive. -/
theorem neg_exp_nonpos (x : EReal) : -Ideal.exp x ≤ 0 := by
  have := EReal.neg_le_neg_iff.2 (exp_nonneg' x)
  simpa using this

/-- The running sums of nonnegative steps at a rate at most zero are below the top. -/
theorem ac_ne_top (K : Ck) (i : Fin 8) {h : Fin 32} (hd : ∀ j, 0 ≤ K.dt j h) (ha : K.a h ≤ 0) : K.ac i h ≠ ⊤ := by
  have hs : K.ac i h ≤ 0 := by
    unfold Ck.ac acs
    refine Finset.sum_nonpos fun j _ => ?_
    unfold upto
    split_ifs
    · exact mul_nonpos_of_nonneg_of_nonpos (hd j) ha
    · exact le_rfl
  exact fun e => absurd (e ▸ hs) (by simp)

/-- A sequence's chunk, of the arguments: its step sizes, rates, convolved inputs, gate and entry state. -/
def spec (ps : Vec Ideal S256x9320 .f32) (h0 : Vec Ideal S2x32x32x64x128 .f32) (cs : Vec Ideal S32x3x3072 .f32) (cw : Vec Ideal S4x3072 .f32)
    (cb : Vec Ideal S3072 .f32) (db al dk : Vec Ideal S32 .f32) (nw : Vec Ideal S2048 .f32) (s : Fin 32) : Ck where
  dt j h := sp (ps (ix2 (srow s j) ⟨5120 + h.val, by omega⟩) + db (ix1 h))
  a h := -Ideal.exp (al (ix1 h))
  x i q := si (cvv (fun j => ps (ix2 (srow s j) ⟨2048 + q.val, by omega⟩)) (fun j => cs (ix3 s j ⟨q.val, by omega⟩)) (fun k => cw (ix2 k ⟨q.val, by omega⟩)) (cb (ix1 ⟨q.val, by omega⟩)) i)
  bc i q := si (cvv (fun j => ps (ix2 (srow s j) ⟨4096 + q.val, by omega⟩)) (fun j => cs (ix3 s j ⟨2048 + q.val, by omega⟩)) (fun k => cw (ix2 k ⟨2048 + q.val, by omega⟩)) (cb (ix1 ⟨2048 + q.val, by omega⟩)) i)
  z i q := ps (ix2 (srow s i) ⟨q.val, by omega⟩)
  h q p n := h0 (ix5 0 s q p n)
  dsk q := dk (ix1 (hl q))
  nw q := nw (ix1 q)

/-- The specification at the kernel's own arguments. -/
def SP (c : Dev nD) (s : Fin 32) : Ck :=
  spec (m (c.tc.loc main_arg1)) (m (c.tc.loc main_arg2)) (m (c.tc.loc main_arg4)) (m (c.tc.loc main_arg5)) (m (c.tc.loc main_arg6))
    (m (c.tc.loc main_arg7)) (m (c.tc.loc main_arg8)) (m (c.tc.loc main_arg9)) (m (c.tc.loc main_arg10)) s

/-- A point's row among all rows is its sample's row after the prompts'. -/
theorem row_eq (t : Fin cfg0.N) (i : Fin 8) : (⟨16896 + 8 * t.val + i.val, by have := t.isLt; have : cfg0.N = 32 := rfl; omega⟩ : Fin 17152)
    = ⟨16896 + (srow ⟨t.val, t.isLt⟩ i).val, by have := (srow ⟨t.val, t.isLt⟩ i).isLt; omega⟩ :=
  Fin.ext (by simp only [srow]; omega)

/-- The gate's block at a point, from the argument. -/
theorem z_at (c : Dev nD) (t : Fin cfg0.N) (i : Fin 8) (q : Fin 2048) :
    X0_0 m c t (ix2 i q) = (m (c.tc.loc main_arg1) : Vec Ideal S256x9320 .f32) (ix2 (srow ⟨t.val, t.isLt⟩ i) ⟨q.val, by omega⟩) := by
  refine (z_read m c t i q).trans ?_
  rw [row_eq]
  refine v8_at m c _ _ _ fun f => ?_
  unfold InProj.pick
  rw [dif_pos (by simp only []; omega)]
  exact congrArg f (Fin.ext (by simp only []; split_ifs <;> omega))

/-- The inputs' block at a point, from the argument. -/
theorem x_at (c : Dev nD) (t : Fin cfg0.N) (i : Fin 8) (q : Fin 2048) :
    X0_1 m c t (ix2 i q) = (m (c.tc.loc main_arg1) : Vec Ideal S256x9320 .f32) (ix2 (srow ⟨t.val, t.isLt⟩ i) ⟨2048 + q.val, by omega⟩) := by
  refine (x_read m c t i q).trans ?_
  rw [row_eq]
  refine v8_at m c _ _ _ fun f => ?_
  unfold InProj.pick
  rw [dif_pos (by simp only []; omega)]
  exact congrArg f (Fin.ext (by simp only []; split_ifs <;> omega))

/-- The B and C block at a point, from the argument. -/
theorem bc_at (c : Dev nD) (t : Fin cfg0.N) (i : Fin 8) (q : Fin 1024) :
    X0_2 m c t (ix2 i q) = (m (c.tc.loc main_arg1) : Vec Ideal S256x9320 .f32) (ix2 (srow ⟨t.val, t.isLt⟩ i) ⟨4096 + q.val, by omega⟩) := by
  refine (bc_read m c t i q).trans ?_
  rw [row_eq]
  refine v8_at m c _ _ _ fun f => ?_
  unfold InProj.pick
  rw [dif_pos (by simp only []; omega)]
  exact congrArg f (Fin.ext (by simp only []; split_ifs <;> omega))

/-- The raw time steps at a point, from the argument. -/
theorem dt_at (c : Dev nD) (t : Fin cfg0.N) (i : Fin 8) (h : Fin 32) :
    (B3 m c t) (ix2 i ⟨64 + h.val, by omega⟩) = (m (c.tc.loc main_arg1) : Vec Ideal S256x9320 .f32) (ix2 (srow ⟨t.val, t.isLt⟩ i) ⟨5120 + h.val, by omega⟩) := by
  refine (dt_read m c t i _).trans ?_
  rw [row_eq]
  refine v8_at m c _ _ _ fun f => ?_
  unfold InProj.pick
  rw [dif_pos (by simp only []; omega)]
  exact congrArg f (Fin.ext (by simp only []; split_ifs <;> omega))

/-- The decay rates at a point, from the argument. -/
theorem a_at (c : Dev nD) (t : Fin cfg0.N) (h : Fin 32) :
    (B12 m c t) (ix2 0 ⟨64 + h.val, by omega⟩) = -Ideal.exp ((m (c.tc.loc main_arg8) : Vec Ideal S32 .f32) (ix1 h)) :=
  (b12_read m c t 0 _).trans (v37_entry m c h)

/-- The time steps' bias at a point, from the argument. -/
theorem bias_at (c : Dev nD) (t : Fin cfg0.N) (h : Fin 32) :
    (B11 m c t) (ix2 0 ⟨64 + h.val, by omega⟩) = (m (c.tc.loc main_arg7) : Vec Ideal S32 .f32) (ix1 h) :=
  (b11_read m c t 0 _).trans (v30_entry m c h)

/-- Equal inputs have equal convolved values. -/
theorem cvv_congr {u u' : Fin 8 → EReal} {p p' : Fin 3 → EReal} {w w' : Fin 4 → EReal} {b b' : EReal} (i : Fin 8) (h1 : ∀ j, u j = u' j) (h2 : ∀ j, p j = p' j)
    (h3 : ∀ k, w k = w' k) (h4 : b = b') : si (cvv u p w b i) = si (cvv u' p' w' b' i) := by
  rw [funext h1, funext h2, funext h3, h4]

/-- The carried input rows at a point, from the argument. -/
theorem xp_at (c : Dev nD) (t : Fin cfg0.N) (j : Fin 3) (q : Fin 2048) :
    (B5 m c t) (ix3 0 j q) = (m (c.tc.loc main_arg4) : Vec Ideal S32x3x3072 .f32) (ix3 ⟨t.val, t.isLt⟩ j ⟨q.val, by omega⟩) :=
  (b5_read m c t j q).trans (v42_entry m c ⟨t.val, t.isLt⟩ j q)
/-- The carried B and C rows at a point, from the argument. -/
theorem bcp_at (c : Dev nD) (t : Fin cfg0.N) (j : Fin 3) (q : Fin 1024) :
    (B6 m c t) (ix3 0 j q) = (m (c.tc.loc main_arg4) : Vec Ideal S32x3x3072 .f32) (ix3 ⟨t.val, t.isLt⟩ j ⟨2048 + q.val, by omega⟩) :=
  (b6_read m c t j q).trans (v43_entry m c ⟨t.val, t.isLt⟩ j q)
/-- The inputs' convolution weights at a point, from the argument. -/
theorem xw_at (c : Dev nD) (t : Fin cfg0.N) (k : Fin 4) (q : Fin 2048) :
    (B7 m c t) (ix2 k q) = (m (c.tc.loc main_arg5) : Vec Ideal S4x3072 .f32) (ix2 k ⟨q.val, by omega⟩) :=
  (b7_read m c t k q).trans (v20_entry m c k q)
/-- The B and C channels' convolution weights at a point, from the argument. -/
theorem bcw_at (c : Dev nD) (t : Fin cfg0.N) (k : Fin 4) (q : Fin 1024) :
    (B9 m c t) (ix2 k q) = (m (c.tc.loc main_arg5) : Vec Ideal S4x3072 .f32) (ix2 k ⟨2048 + q.val, by omega⟩) :=
  (b9_read m c t k q).trans (v23_entry m c k q)
/-- The inputs' convolution bias at a point, from the argument. -/
theorem xb_at (c : Dev nD) (t : Fin cfg0.N) (q : Fin 2048) :
    (B8 m c t) (ix2 0 q) = (m (c.tc.loc main_arg6) : Vec Ideal S3072 .f32) (ix1 ⟨q.val, by omega⟩) :=
  (b8_read m c t 0 q).trans (v22_entry m c q)
/-- The B and C channels' convolution bias at a point, from the argument. -/
theorem bcb_at (c : Dev nD) (t : Fin cfg0.N) (q : Fin 1024) :
    (B10 m c t) (ix2 0 q) = (m (c.tc.loc main_arg6) : Vec Ideal S3072 .f32) (ix1 ⟨2048 + q.val, by omega⟩) :=
  (b10_read m c t 0 q).trans (v25_entry m c q)
/-- The skip weights at a point, from the argument. -/
theorem dsk_at (c : Dev nD) (t : Fin cfg0.N) (q : Fin 2048) :
    (B13 m c t) (ix2 0 q) = (m (c.tc.loc main_arg9) : Vec Ideal S32 .f32) (ix1 (hl q)) :=
  (b13_read m c t 0 q).trans (v40_entry m c q)
/-- The norm weights at a point, from the argument. -/
theorem nw_at (c : Dev nD) (t : Fin cfg0.N) (q : Fin 2048) :
    (B14 m c t) (ix2 0 q) = (m (c.tc.loc main_arg10) : Vec Ideal S2048 .f32) (ix1 q) :=
  (b14_read m c t 0 q).trans (v41_entry m c q)

/-- The point's time steps are the sample's. -/
theorem CK_dt (c : Dev nD) (t : Fin cfg0.N) : (CK m c t).dt = (SP m c ⟨t.val, t.isLt⟩).dt := by
  funext j h
  unfold CK SP spec
  dsimp only
  rw [dt_at, bias_at]
/-- The point's inputs are the sample's. -/
theorem CK_x (c : Dev nD) (t : Fin cfg0.N) : (CK m c t).x = (SP m c ⟨t.val, t.isLt⟩).x :=
  funext fun i => funext fun q => cvv_congr i (fun j => x_at m c t j q) (fun j => xp_at m c t j q) (fun k => xw_at m c t k q) (xb_at m c t q)
/-- The point's B and C are the sample's. -/
theorem CK_bc (c : Dev nD) (t : Fin cfg0.N) : (CK m c t).bc = (SP m c ⟨t.val, t.isLt⟩).bc :=
  funext fun i => funext fun q => cvv_congr i (fun j => bc_at m c t j q) (fun j => bcp_at m c t j q) (fun k => bcw_at m c t k q) (bcb_at m c t q)

/-- The point's decay rates are the sample's. -/
theorem CK_a (c : Dev nD) (t : Fin cfg0.N) : (CK m c t).a = (SP m c ⟨t.val, t.isLt⟩).a := by
  funext h
  exact a_at m c t h
/-- The point's gate is the sample's. -/
theorem CK_z (c : Dev nD) (t : Fin cfg0.N) : (CK m c t).z = (SP m c ⟨t.val, t.isLt⟩).z := by
  funext i q
  exact z_at m c t i q
/-- The point's state is the sample's. -/
theorem CK_h (c : Dev nD) (t : Fin cfg0.N) : (CK m c t).h = (SP m c ⟨t.val, t.isLt⟩).h := by
  funext h p n
  exact h_read m c t h p n
/-- The point's skip weights are the sample's. -/
theorem CK_dsk (c : Dev nD) (t : Fin cfg0.N) : (CK m c t).dsk = (SP m c ⟨t.val, t.isLt⟩).dsk := by
  funext q
  exact dsk_at m c t q
/-- The point's norm weights are the sample's. -/
theorem CK_nw (c : Dev nD) (t : Fin cfg0.N) : (CK m c t).nw = (SP m c ⟨t.val, t.isLt⟩).nw := by
  funext q
  exact nw_at m c t q

/-- The chunk a point works on is its sequence's. -/
theorem CK_eq (c : Dev nD) (t : Fin cfg0.N) : CK m c t = SP m c ⟨t.val, t.isLt⟩ := by
  have e1 := CK_dt m c t
  have e2 := CK_a m c t
  have e3 := CK_x m c t
  have e4 := CK_bc m c t
  have e5 := CK_z m c t
  have e6 := CK_h m c t
  have e7 := CK_dsk m c t
  have e8 := CK_nw m c t
  generalize CK m c t = K at *
  generalize SP m c ⟨t.val, t.isLt⟩ = K' at *
  exact ck_ext e1 e2 e3 e4 e5 e6 e7 e8

/-- The point's needs hold when no raw step is infinite. -/
theorem ok_of (c : Dev nD) (t : Fin cfg0.N) (hp : ∀ j h, (SP m c ⟨t.val, t.isLt⟩).dt j h ≠ ⊤) : Ok m c t where
  E := by
    intro l q
    exact (b15_read m c t l q).trans ((congrFun (v19_entry m c) _).trans (spr_apply l q))
  dt := fun j h e => hp j h ((congrArg (fun K : Ck => K.dt j h) (CK_eq m c t)).symm.trans e)
  ac := fun i h e => ac_ne_top (SP m c ⟨t.val, t.isLt⟩) i (fun j => sp_nonneg _) (neg_exp_nonpos _)
    ((congrArg (fun K : Ck => K.ac i h) (CK_eq m c t)).symm.trans e)

/-- The output's first array of a sequence's row. -/
def G16 (c : Dev nD) (r : Fin 256) (q : Fin 2048) : EReal := (SP m c ⟨r.val / 8, by omega⟩).out ⟨r.val % 8, by omega⟩ q

/-- The output's state array: the first layer's new states, the second layer's kept. -/
def G17 (c : Dev nD) (l : Fin 2) (s : Fin 32) (h : Fin 32) (p : Fin 64) (n : Fin 128) : EReal :=
  if l.val = 0 then (SP m c s).st h p n else (m (c.tc.loc main_arg3) : Vec Ideal S2x32x32x64x128 .f32) (ix5 l s h p n)

end Cert.Ssd
-- ==== Proof.SsdG.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdF

@[expose] public section

set_option maxRecDepth 16384

noncomputable section

open Idealize.ShloMosaic Idealize.ShloMosaic.TcCoe Idealize.SL.Sem
open Idealize.ShloMosaic.Pipeline (Dat)

namespace Cert.SsdRef

open Cert.ReferenceIdeal Cert.ReferenceIdeal.Gen Cert.ReferenceIdeal.Value
open Cert.Ssd (Ck spec si cvv tp sp srow hl gq gl pl upto acs NEG)

variable (V0 : Valuation τ sig (Elt Ideal))

/-- Argument 1. -/
abbrev A1 : FVec Ideal S256x9320 .f32 := V0 (Proc.devRef .tc main_arg1)
/-- Argument 2. -/
abbrev A2 : FVec Ideal S2x32x32x64x128 .f32 := V0 (Proc.devRef .tc main_arg2)
/-- Argument 3. -/
abbrev A3 : FVec Ideal S2x32x32x64x128 .f32 := V0 (Proc.devRef .tc main_arg3)
/-- Argument 4. -/
abbrev A4 : FVec Ideal S32x3x3072 .f32 := V0 (Proc.devRef .tc main_arg4)
/-- Argument 5. -/
abbrev A5 : FVec Ideal S4x3072 .f32 := V0 (Proc.devRef .tc main_arg5)
/-- Argument 6. -/
abbrev A6 : FVec Ideal S3072 .f32 := V0 (Proc.devRef .tc main_arg6)
/-- Argument 7. -/
abbrev A7 : FVec Ideal S32 .f32 := V0 (Proc.devRef .tc main_arg7)
/-- Argument 8. -/
abbrev A8 : FVec Ideal S32 .f32 := V0 (Proc.devRef .tc main_arg8)
/-- Argument 9. -/
abbrev A9 : FVec Ideal S32 .f32 := V0 (Proc.devRef .tc main_arg9)
/-- Argument 10. -/
abbrev A10 : FVec Ideal S2048 .f32 := V0 (Proc.devRef .tc main_arg10)
/-- The reference's value 0. -/
abbrev R0 : FVec Ideal S32x8x9320 .f32 := res_main_v0 V0
/-- The reference's value 1. -/
abbrev R1 : FVec Ideal S32x8x2048 .f32 := res_main_v1 V0
/-- The reference's value 4. -/
abbrev R4 : FVec Ideal S32x11x3072 .f32 := res_main_v4 V0
/-- The reference's value 34. -/
abbrev R34 : FVec Ideal S32x8x3072 .f32 := res_main_v34 V0
/-- The reference's value 35. -/
abbrev R35 : FVec Ideal S32x8x3072 .f32 := res_main_v35 V0
/-- The reference's value 36. -/
abbrev R36 : FVec Ideal S32x8x2048 .f32 := res_main_v36 V0
/-- The reference's value 41. -/
abbrev R41 : FVec Ideal S32x8x32 .f32 := res_main_v41 V0
/-- The reference's value 46. -/
abbrev R46 : FVec Ideal S32x8x4x8 .f32 := res_main_v46 V0
/-- The reference's value 47. -/
abbrev R47 : FVec Ideal S32x8x4x128 .f32 := res_main_v47 V0
/-- The reference's value 48. -/
abbrev R48 : FVec Ideal S32x8x4x128 .f32 := res_main_v48 V0
/-- The reference's value 51. -/
abbrev R51 : FVec Ideal S32x4x8x64x128 .f32 := res_main_v51 V0
/-- The reference's value 58. -/
abbrev R58 : FVec Ideal S32x8x4x8 .f32 := res_main_v58 V0
/-- The reference's value 71. -/
abbrev R71 : FVec Ideal S32x8x4x8x64 .f32 := res_main_v71 V0
/-- The reference's value 85. -/
abbrev R85 : FVec Ideal S32x4x8 .f32 := res_main_v85 V0
/-- The reference's value 110. -/
abbrev R110 : FVec Ideal S32x8x4x512 .f32 := res_main_v110 V0

/-- A sequence's chunk, of the reference's arguments. -/
def RK (s : Fin 32) : Ck := spec (A1 V0) (A2 V0) (A4 V0) (A5 V0) (A6 V0) (A7 V0) (A8 V0) (A9 V0) (A10 V0) s

/-- The samples' projections, eight rows a sequence. -/
theorem v0_at (s : Fin 32) (i : Fin 8) (q : Fin 9320) : R0 V0 (ix3 s i q) = A1 V0 (ix2 (srow s i) q) := by
  have e : srow s i = ⟨s.val * 8 + i.val, by omega⟩ := Fin.ext (by simp only [srow]; omega)
  rw [e]
  unfold R0 res_main_v0
  pointwise

/-- The reference's gate is the sample's. -/
theorem v1_at (s : Fin 32) (i : Fin 8) (q : Fin 2048) : R1 V0 (ix3 s i q) = (RK V0 s).z i q := by
  refine Eq.trans ?_ (v0_at V0 s i ⟨q.val, by omega⟩)
  unfold R1 res_main_v1
  pointwise

/-- The three earlier rows, then the chunk's eight. -/
theorem v4_form (s : Fin 32) (j : Fin 11) (q : Fin 3072) :
    R4 V0 (ix3 s j q) = if h : j.val < 3 then A4 V0 (ix3 s ⟨j.val, h⟩ q) else R0 V0 (ix3 s ⟨j.val - 3, by omega⟩ ⟨2048 + q.val, by omega⟩) := by
  unfold R4 res_main_v4
  pointwise

/-- The reference's convolution before silu, as bias and four products. -/
theorem v34_form (s : Fin 32) (i : Fin 8) (q : Fin 3072) :
    R34 V0 (ix3 s i q) = A6 V0 (ix1 q) + R4 V0 (ix3 s ⟨i.val, by omega⟩ q) * A5 V0 (ix2 0 q) + R4 V0 (ix3 s ⟨1 + i.val, by omega⟩ q) * A5 V0 (ix2 1 q)
        + R4 V0 (ix3 s ⟨2 + i.val, by omega⟩ q) * A5 V0 (ix2 2 q) + R4 V0 (ix3 s ⟨3 + i.val, by omega⟩ q) * A5 V0 (ix2 3 q) := by
  unfold R34 res_main_v34
  pointwise

/-- Five terms, in another order. -/
theorem sum5 (b a0 w0 a1 w1 a2 w2 a3 w3 : EReal) : b + a0 * w0 + a1 * w1 + a2 * w2 + a3 * w3 = b + a3 * w3 + a0 * w0 + a1 * w1 + a2 * w2 := by
  ac_rfl

/-- A row and its three earlier ones, weighted. -/
theorem v34_at (s : Fin 32) (i : Fin 8) (q : Fin 3072) :
    R34 V0 (ix3 s i q) = cvv (fun j => A1 V0 (ix2 (srow s j) ⟨2048 + q.val, by omega⟩)) (fun j => A4 V0 (ix3 s j q)) (fun k => A5 V0 (ix2 k q)) (A6 V0 (ix1 q)) i := by
  have t : ∀ k : Fin 3, R4 V0 (ix3 s ⟨k.val + i.val, by omega⟩ q)
      = tp (fun j => A1 V0 (ix2 (srow s j) ⟨2048 + q.val, by omega⟩)) (fun j => A4 V0 (ix3 s j q)) k i := by
    intro k
    rw [v4_form]
    unfold tp
    by_cases h : i.val + k.val < 3
    · rw [dif_pos h, dif_pos (by simp only []; omega)]
      exact congrArg (fun j => A4 V0 (ix3 s j q)) (Fin.ext (by simp only []; omega))
    · rw [dif_neg h, dif_neg (by simp only []; omega), v0_at]
      exact congrArg (fun j => A1 V0 (ix2 (srow s j) ⟨2048 + q.val, by omega⟩)) (Fin.ext (by simp only []; omega))
  have t3 : R4 V0 (ix3 s ⟨3 + i.val, by omega⟩ q) = A1 V0 (ix2 (srow s i) ⟨2048 + q.val, by omega⟩) := by
    rw [v4_form, dif_neg (by simp only []; omega), v0_at]
    exact congrArg (fun j => A1 V0 (ix2 (srow s j) ⟨2048 + q.val, by omega⟩)) (Fin.ext (by simp only []; omega))
  have t0 : R4 V0 (ix3 s ⟨i.val, by omega⟩ q) = tp (fun j => A1 V0 (ix2 (srow s j) ⟨2048 + q.val, by omega⟩)) (fun j => A4 V0 (ix3 s j q)) 0 i :=
    (congrArg (fun j => R4 V0 (ix3 s j q)) (Fin.ext (Nat.zero_add _).symm)).trans (t 0)
  have t1 : R4 V0 (ix3 s ⟨1 + i.val, by omega⟩ q) = tp (fun j => A1 V0 (ix2 (srow s j) ⟨2048 + q.val, by omega⟩)) (fun j => A4 V0 (ix3 s j q)) 1 i := t 1
  have t2 : R4 V0 (ix3 s ⟨2 + i.val, by omega⟩ q) = tp (fun j => A1 V0 (ix2 (srow s j) ⟨2048 + q.val, by omega⟩)) (fun j => A4 V0 (ix3 s j q)) 2 i := t 2
  rw [v34_form, t0, t1, t2, t3]
  exact sum5 _ _ _ _ _ _ _ _ _

/-- The reference's convolution followed by silu, element by element. -/
theorem v35_at (s : Fin 32) (i : Fin 8) (q : Fin 3072) :
    R35 V0 (ix3 s i q) = si (cvv (fun j => A1 V0 (ix2 (srow s j) ⟨2048 + q.val, by omega⟩)) (fun j => A4 V0 (ix3 s j q)) (fun k => A5 V0 (ix2 k q)) (A6 V0 (ix1 q)) i) := by
  rw [← v34_at]
  have e : R35 V0 (ix3 s i q) = R34 V0 (ix3 s i q) * Ideal.div 1 (1 + Ideal.exp (-R34 V0 (ix3 s i q))) := by
    unfold R35 res_main_v35
    pointwise
  rw [e]
  unfold si Mix.sg
  rw [Ideal.ofBits_one_f32]

/-- The heads' inputs. -/
theorem v35_x (s : Fin 32) (i : Fin 8) (q : Fin 2048) : R35 V0 (ix3 s i ⟨q.val, by omega⟩) = (RK V0 s).x i q := v35_at V0 s i _

/-- The groups' projections. -/
theorem v35_bc (s : Fin 32) (i : Fin 8) (q : Fin 1024) : R35 V0 (ix3 s i ⟨2048 + q.val, by omega⟩) = (RK V0 s).bc i q := by
  refine (v35_at V0 s i _).trans (Cert.Ssd.cvv_congr i (fun j => ?_) (fun _ => rfl) (fun _ => rfl) rfl)
  exact congrArg (fun a => A1 V0 (ix2 (srow s j) a)) (Fin.ext (by simp only []; omega))

/-- The reference's raw time step plus its bias. -/
theorem v41_at (s : Fin 32) (j : Fin 8) (h : Fin 32) :
    R41 V0 (ix3 s j h) = A1 V0 (ix2 (srow s j) ⟨5120 + h.val, by omega⟩) + A7 V0 (ix1 h) := by
  rw [← v0_at]
  unfold R41 res_main_v41
  pointwise

/-- The head of a group's place. -/
def hd (g : Fin 4) (e : Fin 8) : Fin 32 := ⟨g.val * 8 + e.val, by omega⟩

/-- The step sizes. -/
theorem v46_at (s : Fin 32) (j : Fin 8) (g : Fin 4) (e : Fin 8) : R46 V0 (ix4 s j g e) = (RK V0 s).dt j (hd g e) := by
  have e1 : R46 V0 (ix4 s j g e) = sp (R41 V0 (ix3 s j (hd g e))) := by
    refine Eq.trans (b := if R41 V0 (ix3 s j (hd g e)) ≠ R41 V0 (ix3 s j (hd g e)) then R41 V0 (ix3 s j (hd g e))
      else max (R41 V0 (ix3 s j (hd g e))) 0 + Ideal.log1p (Ideal.exp (-FloatOps.absf (F := Ideal) (φ := .f32) (R41 V0 (ix3 s j (hd g e)))))) ?_ ?_
    · unfold R46 res_main_v46 res_main_call1_v3 res_main_call1_cst
      pointwise
      rfl
    · rw [if_neg (fun h => h rfl)]
      unfold sp
      rw [zero_sub]
      rfl
  rw [e1, v41_at]
  rfl

/-- The reference's B is the sample's. -/
theorem v47_at (s : Fin 32) (j : Fin 8) (g : Fin 4) (n : Fin 128) : R47 V0 (ix4 s j g n) = (RK V0 s).bc j ⟨128 * g.val + n.val, by omega⟩ := by
  refine Eq.trans (Eq.trans (b := R35 V0 (ix3 s j ⟨2048 + (g.val * 128 + n.val), by omega⟩)) ?_ ?_) (v35_bc V0 s j _)
  · unfold R47 res_main_v47
    pointwise
  · exact congrArg (fun a => R35 V0 (ix3 s j a)) (Fin.ext (by simp only []; omega))
/-- The reference's C is the sample's. -/
theorem v48_at (s : Fin 32) (j : Fin 8) (g : Fin 4) (n : Fin 128) : R48 V0 (ix4 s j g n) = (RK V0 s).bc j ⟨512 + 128 * g.val + n.val, by omega⟩ := by
  refine Eq.trans (Eq.trans (b := R35 V0 (ix3 s j ⟨2560 + (g.val * 128 + n.val), by omega⟩)) ?_ ?_) (v35_bc V0 s j _)
  · unfold R48 res_main_v48
    pointwise
  · exact congrArg (fun a => R35 V0 (ix3 s j a)) (Fin.ext (by simp only []; omega))
/-- The reference's state before the step is the sample's. -/
theorem v51_at (s : Fin 32) (g : Fin 4) (e : Fin 8) (p : Fin 64) (n : Fin 128) : R51 V0 (ix5 s g e p n) = (RK V0 s).h (hd g e) p n := by
  refine Eq.trans (b := A2 V0 (ix5 0 s (hd g e) p n)) ?_ rfl
  unfold R51 res_main_v51
  pointwise
  rfl
/-- The reference's inputs are the sample's. -/
theorem v36_at (s : Fin 32) (j : Fin 8) (q : Fin 2048) : R36 V0 (ix3 s j q) = (RK V0 s).x j q := by
  refine Eq.trans ?_ (v35_x V0 s j q)
  unfold R36 res_main_v36
  pointwise
/-- The reference's inputs times their time steps. -/
theorem v71_at (s : Fin 32) (j : Fin 8) (g : Fin 4) (e : Fin 8) (p : Fin 64) :
    R71 V0 (ix5 s j g e p) = (RK V0 s).x j ⟨64 * (hd g e).val + p.val, by omega⟩ * (RK V0 s).dt j (hd g e) := by
  rw [← v46_at, ← v36_at]
  refine Eq.trans (b := R36 V0 (ix3 s j ⟨g.val * 512 + e.val * 64 + p.val, by omega⟩) * R46 V0 (ix4 s j g e)) ?_ ?_
  · unfold R71 res_main_v71
    pointwise
  · exact congrArg (fun a => R36 V0 (ix3 s j a) * R46 V0 (ix4 s j g e)) (Fin.ext (by simp only [hd]; omega))

/-- The raw terms of the running sums. -/
def W57 : FVec Ideal S32x8x4x8 .f32 :=
  mulf (res_main_v46 V0) (broadcastInDim S32x8x4x8 ![0, 1, 2, 3] bcast_S1x1x4x8_S32x8x4x8_0_1_2_3 (broadcastInDim S1x1x4x8 ![2, 3] bcast_S4x8_S1x1x4x8_2_3 (shapeCast _ (Host.negf (Host.exp (A8 V0))) shapeCasts_S32_S4x8)))

/-- The reference's time step times decay rate. -/
theorem v57_at (s : Fin 32) (j : Fin 8) (g : Fin 4) (e : Fin 8) : W57 V0 (ix4 s j g e) = (RK V0 s).dt j (hd g e) * (RK V0 s).a (hd g e) := by
  rw [← v46_at]
  refine Eq.trans (b := R46 V0 (ix4 s j g e) * -Ideal.exp (A8 V0 (ix1 (hd g e)))) ?_ rfl
  unfold W57
  pointwise
  rfl

/-- The place of a window of eight rows. -/
abbrev W8 : Shape := ⟨4, ![1, 8, 1, 1]⟩

/-- The running sum's window holds the eight steps, one after another. -/
theorem W8_at : ∀ n : Fin W8.numel, (W8.rowMajor.symm n 0).val = 0 ∧ (W8.rowMajor.symm n 1).val = n.val ∧ (W8.rowMajor.symm n 2).val = 0 ∧ (W8.rowMajor.symm n 3).val = 0 := by
  decide +kernel

/-- One term of the window's sum. -/
def wt (y : Fin 8 → EReal) (i : Fin 8) (n : Nat) : EReal := if h : 7 ≤ i.val + n ∧ n < 8 then y ⟨i.val + n - 7, by omega⟩ else 0

/-- The running sum's window has eight elements. -/
theorem W8_numel : W8.numel = 8 := by decide +kernel

/-- Adding up the window is summing the steps up to the given one. -/
theorem wt_sum (y : Fin 8 → EReal) (i : Fin 8) : (List.finRange W8.numel).foldl (fun r n => r + wt y i n.val) 0 = ∑ j : Fin 8, upto i.val j.val (y j) 0 := by
  rw [W8_numel]
  have e : (List.finRange 8).foldl (fun r n => r + wt y i n.val) 0 = 0 + wt y i 0 + wt y i 1 + wt y i 2 + wt y i 3 + wt y i 4 + wt y i 5 + wt y i 6 + wt y i 7 := rfl
  rw [e, Fin.sum_univ_eight]
  unfold wt upto
  fin_cases i <;> simp

/-- The window's place is in the array, not in the padding. -/
def InW (s : Fin 32) (i : Fin 8) (g : Fin 4) (e : Fin 8) (n : Fin W8.numel) : Prop :=
  ∀ a : Fin 4, (![0, 7, 0, 0] : Fin 4 → Nat) a ≤ ((ix4 s i g e : S32x8x4x8.Idx) a).val * (![1, 1, 1, 1] : Fin 4 → Nat) a + (W8.rowMajor.symm n a).val
        ∧ ((ix4 s i g e : S32x8x4x8.Idx) a).val * (![1, 1, 1, 1] : Fin 4 → Nat) a + (W8.rowMajor.symm n a).val - (![0, 7, 0, 0] : Fin 4 → Nat) a < S32x8x4x8.size a

/-- One term of the window's sum. -/
theorem window_term (x : Vec Ideal S32x8x4x8 .f32) (s : Fin 32) (i : Fin 8) (g : Fin 4) (e : Fin 8) (n : Fin W8.numel) (dc : Decidable (InW s i g e n)) :
    (if hin : InW s i g e n
      then x (fun a => ⟨((ix4 s i g e : S32x8x4x8.Idx) a).val * (![1, 1, 1, 1] : Fin 4 → Nat) a + (W8.rowMajor.symm n a).val - (![0, 7, 0, 0] : Fin 4 → Nat) a, (hin a).2⟩) else 0)
      = wt (fun j => x (ix4 s j g e)) i n.val := by
  obtain ⟨h0, h1, h2, h3⟩ := W8_at n
  unfold wt
  have hn : n.val < 8 := W8_numel ▸ n.isLt
  by_cases h : 7 ≤ i.val + n.val ∧ n.val < 8
  · rw [dif_pos h]
    refine (dif_pos ?_).trans (congrArg x ?_)
    · intro a
      fin_cases a
      · show 0 ≤ s.val * 1 + (W8.rowMajor.symm n 0).val ∧ s.val * 1 + (W8.rowMajor.symm n 0).val - 0 < 32
        omega
      · show 7 ≤ i.val * 1 + (W8.rowMajor.symm n 1).val ∧ i.val * 1 + (W8.rowMajor.symm n 1).val - 7 < 8
        omega
      · show 0 ≤ g.val * 1 + (W8.rowMajor.symm n 2).val ∧ g.val * 1 + (W8.rowMajor.symm n 2).val - 0 < 4
        omega
      · show 0 ≤ e.val * 1 + (W8.rowMajor.symm n 3).val ∧ e.val * 1 + (W8.rowMajor.symm n 3).val - 0 < 8
        omega
    · funext a
      fin_cases a
      · exact Fin.ext (by show s.val * 1 + (W8.rowMajor.symm n 0).val - 0 = s.val; omega)
      · exact Fin.ext (by show i.val * 1 + (W8.rowMajor.symm n 1).val - 7 = i.val + n.val - 7; omega)
      · exact Fin.ext (by show g.val * 1 + (W8.rowMajor.symm n 2).val - 0 = g.val; omega)
      · exact Fin.ext (by show e.val * 1 + (W8.rowMajor.symm n 3).val - 0 = e.val; omega)
  · rw [dif_neg h]
    refine dif_neg fun hin => h ⟨?_, hn⟩
    have := (hin 1).1
    change 7 ≤ i.val * 1 + (W8.rowMajor.symm n 1).val at this
    omega

/-- A sum over a window of eight that ends at each row, nothing before the first. -/
theorem window_apply (x : Vec Ideal S32x8x4x8 .f32) (z : FVec Ideal S_ .f32) (hz : z = fun _ => 0) (s : Fin 32) (i : Fin 8) (g : Fin 4) (e : Fin 8) :
    Host.reduceWindowAdd (F := Ideal) ![1, 8, 1, 1] ![1, 1, 1, 1] ![0, 7, 0, 0] ![0, 0, 0, 0] x z reduceWindows_S32x8x4x8_S32x8x4x8_w1s1p0_0_w8s1p7_0_w1s1p0_0_w1s1p0_0 h_S_ (ix4 s i g e)
      = ∑ j : Fin 8, upto i.val j.val (x (ix4 s j g e)) 0 := by
  subst hz
  rw [← wt_sum (fun j => x (ix4 s j g e)) i]
  unfold Host.reduceWindowAdd
  rw [Ideal.hostReduceWindowAdd_def]
  unfold Ideal.hostReduceWindowAdd Host.reduceWindow
  exact congrArg (fun f => (List.finRange W8.numel).foldl f (0 : EReal)) (funext fun r => funext fun n => congrArg (fun y : EReal => r + y) (window_term x s i g e n _))

/-- The running sums. -/
theorem v58_at (s : Fin 32) (i : Fin 8) (g : Fin 4) (e : Fin 8) : R58 V0 (ix4 s i g e) = (RK V0 s).ac i (hd g e) := by
  have e0 : R58 V0 = Host.reduceWindowAdd (F := Ideal) ![1, 8, 1, 1] ![1, 1, 1, 1] ![0, 7, 0, 0] ![0, 0, 0, 0] (W57 V0)
      (broadcastInDim S_ ![] bcast_S_S_ (constant (F := Ideal) S_ .f32 0x00000000#32)) reduceWindows_S32x8x4x8_S32x8x4x8_w1s1p0_0_w8s1p7_0_w1s1p0_0_w1s1p0_0 h_S_ := rfl
  refine (congrFun e0 _).trans ((window_apply _ _ (funext fun _ => Ideal.ofBits_zero_f32) s i g e).trans ?_)
  exact Finset.sum_congr rfl fun j _ => congrArg (fun a => upto i.val j.val a 0) (v57_at V0 s j g e)

/-- The reference's last running sum is the sample's. -/
theorem v85_at (s : Fin 32) (g : Fin 4) (e : Fin 8) : R85 V0 (ix3 s g e) = (RK V0 s).ac 7 (hd g e) := by
  rw [← v58_at]
  unfold R85 res_main_v85
  pointwise

end Cert.SsdRef

end
-- ==== Proof.SsdH.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdG

@[expose] public section

set_option maxRecDepth 16384

noncomputable section

open Idealize.ShloMosaic Idealize.ShloMosaic.TcCoe Idealize.SL.Sem
open Idealize.ShloMosaic.Pipeline (Dat)

namespace Cert.SsdRef

open Cert.ReferenceIdeal Cert.ReferenceIdeal.Gen Cert.ReferenceIdeal.Value
open Cert.Ssd (Ck spec si cvv tp sp srow hl gq gl pl upto acs NEG)

variable (V0 : Valuation τ sig (Elt Ideal))

/-- The causal mask over the chunk's rows. -/
def WM : IVec S8x8 1 := select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))

/-- The comparison of two steps' numbers is the order of the steps. -/
theorem wm_test : ∀ i j : Fin 8, IntOp.cmpi .sge (BitVec.ofNat 32 i.val) (BitVec.ofNat 32 j.val) = if j.val ≤ i.val then 1#1 else 0#1 := by
  decide +kernel

/-- The causal mask, element by element. -/
theorem wm_at (i j : Fin 8) : WM (ix2 i j) = if j.val ≤ i.val then 1#1 else 0#1 := by
  have e : WM (ix2 i j) = Scalar.select (IntOp.cmpi .sge (BitVec.ofNat 32 i.val) (BitVec.ofNat 32 j.val)) 1#1 0#1 := by
    unfold WM
    pointwise
    exact congrArg (fun a => Scalar.select (IntOp.cmpi .sge a (BitVec.ofNat 32 j.val)) 1#1 0#1) (BitVec.add_zero _)
  rw [e, wm_test]
  by_cases h : j.val ≤ i.val
  · rw [if_pos h]; rfl
  · rw [if_neg h]; rfl

/-- The groups' scores. -/
def WCB : FVec Ideal S32x4x8x8 .f32 := Host.dotGeneral dot_S32x8x4x128_S32x8x4x128_S32x4x8x8_3_3_1_1_02_02 none (R47 V0) (R48 V0)

/-- The reference's C times B is the sample's score. -/
theorem wcb_at (s : Fin 32) (g : Fin 4) (i j : Fin 8) : WCB V0 (ix4 s g j i) = (RK V0 s).sc g i j := by
  have e : WCB V0 (ix4 s g j i) = ∑ n : Fin 128, R47 V0 (ix4 s j g n) * R48 V0 (ix4 s i g n) := by
    unfold WCB
    pointwise
  rw [e]
  refine Finset.sum_congr rfl fun n _ => ?_
  rw [v47_at, v48_at]
  exact mul_comm _ _

/-- The decay between two rows. -/
def WL : FVec Ideal S32x8x8x4x8 .f32 := Host.exp (select (broadcastInDim S32x8x8x4x8 ![0, 1, 2, 3, 4] bcast_S1x8x8x1x1_S32x8x8x4x8_0_1_2_3_4 (broadcastInDim S1x8x8x1x1 ![1, 2] bcast_S8x8_S1x8x8x1x1_1_2 WM)) (subf (broadcastInDim S32x8x8x4x8 ![0, 1, 2, 3, 4] bcast_S32x8x1x4x8_S32x8x8x4x8_0_1_2_3_4 (broadcastInDim S32x8x1x4x8 ![0, 1, 3, 4] bcast_S32x8x4x8_S32x8x1x4x8_0_1_3_4 (R58 V0))) (broadcastInDim S32x8x8x4x8 ![0, 1, 2, 3, 4] bcast_S32x1x8x4x8_S32x8x8x4x8_0_1_2_3_4 (broadcastInDim S32x1x8x4x8 ![0, 2, 3, 4] bcast_S32x8x4x8_S32x1x8x4x8_0_2_3_4 (R58 V0)))) (broadcastInDim S32x8x8x4x8 ![] bcast_S_S32x8x8x4x8 (id (constant S_ .f32 0xFF800000#32))))

/-- The reference's decay between two steps: the exponential of minus infinity where the second comes after the first. -/
theorem wl_at (s : Fin 32) (i j : Fin 8) (g : Fin 4) (e : Fin 8) :
    WL V0 (ix5 s i j g e) = Ideal.exp (upto i.val j.val ((RK V0 s).ac i (hd g e) - (RK V0 s).ac j (hd g e)) NEG) := by
  have e1 : WL V0 (ix5 s i j g e) = Ideal.exp (Scalar.select (WM (ix2 i j)) (R58 V0 (ix4 s i g e) - R58 V0 (ix4 s j g e)) NEG) := by
    unfold WL
    pointwise
    rfl
  rw [e1, wm_at, v58_at, v58_at]
  unfold upto
  by_cases h : j.val ≤ i.val
  · rw [if_pos h, if_pos h]; rfl
  · rw [if_neg h, if_neg h]; rfl

/-- The heads' parts from the chunk's own rows. -/
def WI : FVec Ideal S32x4x8x64x8 .f32 := Host.dotGeneral dot_S32x8x4x8x64_S32x8x8x4x8_S32x4x8x64x8_1_2_4_1_023_034 none (R71 V0) (mulf (broadcastInDim S32x8x8x4x8 ![0, 1, 2, 3, 4] bcast_S32x8x8x4x1_S32x8x8x4x8_0_1_2_3_4 (broadcastInDim S32x8x8x4x1 ![0, 1, 2, 3] bcast_S32x8x8x4_S32x8x8x4x1_0_1_2_3 (transpose S32x8x8x4 [0, 3, 2, 1] (WCB V0) transposes_S32x4x8x8_S32x8x8x4_0_3_2_1))) (WL V0))

/-- The reference's output from within the chunk is the sample's. -/
theorem wi_at (s : Fin 32) (g : Fin 4) (e : Fin 8) (p : Fin 64) (i : Fin 8) :
    WI V0 (ix5 s g e p i) = (RK V0 s).intra g (hd g e) p i := by
  have e1 : WI V0 (ix5 s g e p i) = ∑ j : Fin 8, R71 V0 (ix5 s j g e p) * (WCB V0 (ix4 s g j i) * WL V0 (ix5 s i j g e)) := by
    unfold WI
    pointwise
  rw [e1]
  refine Finset.sum_congr rfl fun j _ => ?_
  rw [v71_at, wcb_at, wl_at]
  exact mul_comm _ _

/-- The heads' parts from the entry state, before the decay. -/
def WN : FVec Ideal S32x4x8x64x8 .f32 := Host.dotGeneral dot_S32x4x8x64x128_S32x8x4x128_S32x4x8x64x8_4_3_23_1_01_02 none (R51 V0) (R48 V0)

/-- The reference's C times the state, element by element. -/
theorem wn_at (s : Fin 32) (g : Fin 4) (e : Fin 8) (p : Fin 64) (i : Fin 8) :
    WN V0 (ix5 s g e p i) = ∑ n : Fin 128, (RK V0 s).bc i ⟨512 + 128 * g.val + n.val, by omega⟩ * (RK V0 s).h (hd g e) p n := by
  have e1 : WN V0 (ix5 s g e p i) = ∑ n : Fin 128, R51 V0 (ix5 s g e p n) * R48 V0 (ix4 s i g n) := by
    unfold WN
    pointwise
  rw [e1]
  refine Finset.sum_congr rfl fun n _ => ?_
  rw [v51_at, v48_at]
  exact mul_comm _ _

/-- The heads' outputs before the skip. -/
def WY : FVec Ideal S32x8x4x8x64 .f32 := addf (transpose S32x8x4x8x64 [0, 4, 1, 2, 3] (WI V0) transposes_S32x4x8x64x8_S32x8x4x8x64_0_4_1_2_3) (mulf (transpose S32x8x4x8x64 [0, 4, 1, 2, 3] (WN V0) transposes_S32x4x8x64x8_S32x8x4x8x64_0_4_1_2_3) (broadcastInDim S32x8x4x8x64 ![0, 1, 2, 3, 4] bcast_S32x8x4x8x1_S32x8x4x8x64_0_1_2_3_4 (broadcastInDim S32x8x4x8x1 ![0, 1, 2, 3] bcast_S32x8x4x8_S32x8x4x8x1_0_1_2_3 (Host.exp (R58 V0)))))

/-- The reference's outputs from the state and from within the chunk, added. -/
theorem wy_at (s : Fin 32) (i : Fin 8) (g : Fin 4) (e : Fin 8) (p : Fin 64) :
    WY V0 (ix5 s i g e p) = (RK V0 s).inter g (hd g e) p i + (RK V0 s).intra g (hd g e) p i := by
  have e1 : WY V0 (ix5 s i g e p) = WI V0 (ix5 s g e p i) + WN V0 (ix5 s g e p i) * Ideal.exp (R58 V0 (ix4 s i g e)) := by
    unfold WY
    pointwise
  rw [e1, wi_at, wn_at, v58_at]
  exact add_comm _ _

/-- The reference's gated output, written with the values before it. -/
theorem v110_eq : R110 V0 =   shapeCast _ (mulf (shapeCast _ (addf (shapeCast _ (WY V0) shapeCasts_S32x8x4x8x64_S32x8x32x64) (mulf (shapeCast _ (R36 V0) shapeCasts_S32x8x2048_S32x8x32x64) (broadcastInDim S32x8x32x64 ![0, 1, 2, 3] bcast_S1x1x32x1_S32x8x32x64_0_1_2_3 (broadcastInDim S1x1x32x1 ![2, 3] bcast_S32x1_S1x1x32x1_2_3 (broadcastInDim S32x1 ![0] bcast_S32_S32x1_0 (A9 V0)))))) shapeCasts_S32x8x32x64_S32x8x2048) (mulf (R1 V0) (Host.divf (broadcastInDim S32x8x2048 ![] bcast_S_S32x8x2048 (constant S_ .f32 0x3F800000#32)) (addf (broadcastInDim S32x8x2048 ![] bcast_S_S32x8x2048 (constant S_ .f32 0x3F800000#32)) (Host.exp (Host.negf (R1 V0))))))) shapeCasts_S32x8x2048_S32x8x4x512 := rfl

/-- The gated outputs. -/
theorem v110_at (s : Fin 32) (i : Fin 8) (g : Fin 4) (l : Fin 512) :
    R110 V0 (ix4 s i g l) = (RK V0 s).y i ⟨512 * g.val + l.val, by omega⟩ := by
  have e1 : R110 V0 (ix4 s i g l) = (WY V0 (ix5 s i g ⟨l.val / 64, by omega⟩ ⟨l.val % 64, by omega⟩)
      + R36 V0 (ix3 s i ⟨512 * g.val + l.val, by omega⟩) * A9 V0 (ix1 (hd g ⟨l.val / 64, by omega⟩)))
      * (R1 V0 (ix3 s i ⟨512 * g.val + l.val, by omega⟩) * Ideal.div (Ideal.ofBits .f32 0x3F800000#32) (Ideal.ofBits .f32 0x3F800000#32 + Ideal.exp (-R1 V0 (ix3 s i ⟨512 * g.val + l.val, by omega⟩)))) := by
    have i1 : (⟨(g.val * 512 + l.val) / 64 % 8, by omega⟩ : Fin 8) = ⟨l.val / 64, by omega⟩ := Fin.ext (by simp only []; omega)
    have i2 : (⟨(g.val * 512 + l.val) % 64, by omega⟩ : Fin 64) = ⟨l.val % 64, by omega⟩ := Fin.ext (by simp only []; omega)
    have i3 : (⟨(g.val * 512 + l.val) / 64 * 64 + (g.val * 512 + l.val) % 64, by omega⟩ : Fin 2048) = ⟨512 * g.val + l.val, by omega⟩ := Fin.ext (by simp only []; omega)
    have i4 : (⟨(g.val * 512 + l.val) / 64, by omega⟩ : Fin 32) = hd g ⟨l.val / 64, by omega⟩ := Fin.ext (by simp only [hd]; omega)
    have i5 : (⟨g.val * 512 + l.val, by omega⟩ : Fin 2048) = ⟨512 * g.val + l.val, by omega⟩ := Fin.ext (by simp only []; omega)
    rw [v110_eq]
    pointwise
    rw [i1, i2, i3, i4, i5]
  have hg : gl ⟨512 * g.val + l.val, by omega⟩ = g := Fin.ext (by simp only [gl]; omega)
  have hh : hl ⟨512 * g.val + l.val, by omega⟩ = hd g ⟨l.val / 64, by omega⟩ := Fin.ext (by simp only [hl, hd]; omega)
  have hp : pl ⟨512 * g.val + l.val, by omega⟩ = ⟨l.val % 64, by omega⟩ := Fin.ext (by simp only [pl]; omega)
  have hs : (RK V0 s).dsk ⟨512 * g.val + l.val, by omega⟩ = A9 V0 (ix1 (hd g ⟨l.val / 64, by omega⟩)) := congrArg (fun a => A9 V0 (ix1 a)) hh
  rw [e1, wy_at, v36_at, v1_at]
  unfold Ck.y
  rw [hg, hh, hp, hs]
  rfl

/-- The groups' mean squares. -/
def WV : FVec Ideal S32x8x4x1 .f32 := Host.divf (broadcastInDim S32x8x4x1 ![0, 1, 2] bcast_S32x8x4_S32x8x4x1_0_1_2 (Host.reduceAdd (mulf (R110 V0) (R110 V0)) (constant S_ .f32 0x00000000#32) reducesTo_S32x8x4x512_S32x8x4_d3 h_S_)) (broadcastInDim S32x8x4x1 ![] bcast_S_S32x8x4x1 (constant S_ .f32 0x44000000#32))

/-- The reference's mean square of a group. -/
theorem wv_at (s : Fin 32) (i : Fin 8) (g : Fin 4) : WV V0 (ix4 s i g 0) = Ideal.div (∑ l : Fin 512, R110 V0 (ix4 s i g l) * R110 V0 (ix4 s i g l)) (Ideal.ofBits .f32 0x44000000#32) := by
  unfold WV
  pointwise

/-- The reference's first result. -/
def F125 : FVec Ideal S256x2048 .f32 := shapeCast _ (mulf (shapeCast _ (mulf (R110 V0) (broadcastInDim S32x8x4x512 ![0, 1, 2, 3] bcast_S32x8x4x1_S32x8x4x512_0_1_2_3 (Host.rsqrt (addf (Host.divf (broadcastInDim S32x8x4x1 ![0, 1, 2] bcast_S32x8x4_S32x8x4x1_0_1_2 (Host.reduceAdd (mulf (R110 V0) (R110 V0)) (constant S_ .f32 0x00000000#32) reducesTo_S32x8x4x512_S32x8x4_d3 h_S_)) (broadcastInDim S32x8x4x1 ![] bcast_S_S32x8x4x1 (constant S_ .f32 0x44000000#32))) (broadcastInDim S32x8x4x1 ![] bcast_S_S32x8x4x1 (constant S_ .f32 0x358637BD#32)))))) shapeCasts_S32x8x4x512_S32x8x2048) (broadcastInDim S32x8x2048 ![0, 1, 2] bcast_S1x1x2048_S32x8x2048_0_1_2 (broadcastInDim S1x1x2048 ![2] bcast_S2048_S1x1x2048_2 (A10 V0)))) shapeCasts_S32x8x2048_S256x2048

/-- The reference's first result is the samples' outputs. -/
theorem f125_at (r : Fin 256) (q : Fin 2048) : F125 V0 (ix2 r q) = (RK V0 ⟨r.val / 8, by omega⟩).out ⟨r.val % 8, by omega⟩ q := by
  have e0 : F125 V0 = shapeCast _ (mulf (shapeCast _ (mulf (R110 V0) (broadcastInDim S32x8x4x512 ![0, 1, 2, 3] bcast_S32x8x4x1_S32x8x4x512_0_1_2_3 (Host.rsqrt (addf (WV V0) (broadcastInDim S32x8x4x1 ![] bcast_S_S32x8x4x1 (constant S_ .f32 0x358637BD#32)))))) shapeCasts_S32x8x4x512_S32x8x2048) (broadcastInDim S32x8x2048 ![0, 1, 2] bcast_S1x1x2048_S32x8x2048_0_1_2 (broadcastInDim S1x1x2048 ![2] bcast_S2048_S1x1x2048_2 (A10 V0)))) shapeCasts_S32x8x2048_S256x2048 := rfl
  have e1 : F125 V0 (ix2 r q) = R110 V0 (ix4 ⟨r.val / 8, by omega⟩ ⟨r.val % 8, by omega⟩ ⟨q.val / 512, by omega⟩ ⟨q.val % 512, by omega⟩)
      * Ideal.rsqrt (WV V0 (ix4 ⟨r.val / 8, by omega⟩ ⟨r.val % 8, by omega⟩ ⟨q.val / 512, by omega⟩ 0) + Ideal.ofBits .f32 0x358637BD#32) * A10 V0 (ix1 q) := by
    rw [e0]
    pointwise
  have hq : (⟨512 * (q.val / 512) + q.val % 512, by omega⟩ : Fin 2048) = q := Fin.ext (by simp only []; omega)
  rw [e1, wv_at, v110_at]
  refine congrArg₂ (fun a b : EReal => a * Ideal.rsqrt (Ideal.div b (Ideal.ofBits .f32 0x44000000#32) + Ideal.ofBits .f32 0x358637BD#32) * A10 V0 (ix1 q)) (congrArg _ hq) (Finset.sum_congr rfl fun l _ => ?_)
  rw [v110_at]
  rfl

/-- The inputs, decayed to the chunk's end. -/
def WS : FVec Ideal S32x8x4x8x64 .f32 := mulf (broadcastInDim S32x8x4x8x64 ![0, 1, 2, 3, 4] bcast_S32x8x4x8x1_S32x8x4x8x64_0_1_2_3_4 (broadcastInDim S32x8x4x8x1 ![0, 1, 2, 3] bcast_S32x8x4x8_S32x8x4x8x1_0_1_2_3 (Host.exp (subf (broadcastInDim S32x8x4x8 ![0, 1, 2, 3] bcast_S32x1x4x8_S32x8x4x8_0_1_2_3 (broadcastInDim S32x1x4x8 ![0, 2, 3] bcast_S32x4x8_S32x1x4x8_0_2_3 (R85 V0))) (R58 V0))))) (R71 V0)

/-- The reference's inputs weighted by the decay to the chunk's end. -/
theorem ws_at (s : Fin 32) (j : Fin 8) (g : Fin 4) (e : Fin 8) (p : Fin 64) :
    WS V0 (ix5 s j g e p) = (RK V0 s).x j ⟨64 * (hd g e).val + p.val, by omega⟩ * (RK V0 s).dt j (hd g e) * Ideal.exp ((RK V0 s).ac 7 (hd g e) - (RK V0 s).ac j (hd g e)) := by
  have e1 : WS V0 (ix5 s j g e p) = Ideal.exp (R85 V0 (ix3 s g e) - R58 V0 (ix4 s j g e)) * R71 V0 (ix5 s j g e p) := by
    unfold WS
    pointwise
  rw [e1, v71_at, v58_at, v85_at]
  exact mul_comm _ _

/-- The chunk's part of the new state. -/
def WD : FVec Ideal S32x4x8x64x128 .f32 := Host.dotGeneral dot_S32x8x4x8x64_S32x8x4x128_S32x4x8x64x128_1_1_34_3_02_02 none (WS V0) (R47 V0)

/-- The reference's weighted inputs times B, element by element. -/
theorem wd_at (s : Fin 32) (g : Fin 4) (e : Fin 8) (p : Fin 64) (n : Fin 128) :
    WD V0 (ix5 s g e p n) = ∑ j : Fin 8, WS V0 (ix5 s j g e p) * R47 V0 (ix4 s j g n) := by
  unfold WD
  pointwise

/-- The new state. -/
def WT : FVec Ideal S32x4x8x64x128 .f32 := addf (mulf (R51 V0) (broadcastInDim S32x4x8x64x128 ![0, 1, 2, 3, 4] bcast_S32x4x8x1x1_S32x4x8x64x128_0_1_2_3_4 (broadcastInDim S32x4x8x1x1 ![0, 1, 2] bcast_S32x4x8_S32x4x8x1x1_0_1_2 (Host.exp (R85 V0))))) (WD V0)

/-- The reference's new state is the sample's. -/
theorem wt_at (s : Fin 32) (g : Fin 4) (e : Fin 8) (p : Fin 64) (n : Fin 128) :
    WT V0 (ix5 s g e p n) = (RK V0 s).st (hd g e) p n := by
  have e1 : WT V0 (ix5 s g e p n) = R51 V0 (ix5 s g e p n) * Ideal.exp (R85 V0 (ix3 s g e)) + WD V0 (ix5 s g e p n) := by
    unfold WT
    pointwise
  rw [e1, wd_at, v51_at, v85_at]
  refine congrArg (fun a : EReal => (RK V0 s).h (hd g e) p n * Ideal.exp ((RK V0 s).ac 7 (hd g e)) + a) (Finset.sum_congr rfl fun j _ => ?_)
  rw [ws_at, v47_at]
  refine (mul_comm _ _).trans (congrArg (fun a => (RK V0 s).bc j a * ((RK V0 s).x j ⟨64 * (hd g e).val + p.val, by omega⟩ * (RK V0 s).dt j (hd g e) * Ideal.exp ((RK V0 s).ac 7 (hd g e) - (RK V0 s).ac j (hd g e)))) (Fin.ext ?_))
  simp only [gq, hd]
  omega

/-- The reference's second result. -/
def F128 : FVec Ideal S2x32x32x64x128 .f32 := concatenate S2x32x32x64x128 0 [⟨S1x32x32x64x128, (broadcastInDim S1x32x32x64x128 ![1, 2, 3, 4] bcast_S32x32x64x128_S1x32x32x64x128_1_2_3_4 (shapeCast _ (addf (mulf (R51 V0) (broadcastInDim S32x4x8x64x128 ![0, 1, 2, 3, 4] bcast_S32x4x8x1x1_S32x4x8x64x128_0_1_2_3_4 (broadcastInDim S32x4x8x1x1 ![0, 1, 2] bcast_S32x4x8_S32x4x8x1x1_0_1_2 (Host.exp (R85 V0))))) (Host.dotGeneral dot_S32x8x4x8x64_S32x8x4x128_S32x4x8x64x128_1_1_34_3_02_02 none (mulf (broadcastInDim S32x8x4x8x64 ![0, 1, 2, 3, 4] bcast_S32x8x4x8x1_S32x8x4x8x64_0_1_2_3_4 (broadcastInDim S32x8x4x8x1 ![0, 1, 2, 3] bcast_S32x8x4x8_S32x8x4x8x1_0_1_2_3 (Host.exp (subf (broadcastInDim S32x8x4x8 ![0, 1, 2, 3] bcast_S32x1x4x8_S32x8x4x8_0_1_2_3 (broadcastInDim S32x1x4x8 ![0, 2, 3] bcast_S32x4x8_S32x1x4x8_0_2_3 (R85 V0))) (R58 V0))))) (R71 V0)) (R47 V0))) shapeCasts_S32x4x8x64x128_S32x32x64x128))⟩, ⟨S1x32x32x64x128, (extractStridedSlice S1x32x32x64x128 ![1, 0, 0, 0, 0] (A3 V0) slices_S2x32x32x64x128_S1x32x32x64x128_1_0_0_0_0)⟩] concatenates_S1x32x32x64x128_S1x32x32x64x128_S2x32x32x64x128_d0

/-- The reference's second result: the new states in this layer, the given ones in the other. -/
theorem f128_at (l : Fin 2) (s h : Fin 32) (p : Fin 64) (n : Fin 128) :
    F128 V0 (ix5 l s h p n) = if l.val = 0 then (RK V0 s).st h p n else A3 V0 (ix5 l s h p n) := by
  have e0 : F128 V0 = concatenate S2x32x32x64x128 0 [⟨S1x32x32x64x128, (broadcastInDim S1x32x32x64x128 ![1, 2, 3, 4] bcast_S32x32x64x128_S1x32x32x64x128_1_2_3_4 (shapeCast _ (WT V0) shapeCasts_S32x4x8x64x128_S32x32x64x128))⟩, ⟨S1x32x32x64x128, (extractStridedSlice S1x32x32x64x128 ![1, 0, 0, 0, 0] (A3 V0) slices_S2x32x32x64x128_S1x32x32x64x128_1_0_0_0_0)⟩] concatenates_S1x32x32x64x128_S1x32x32x64x128_S2x32x32x64x128_d0 := rfl
  have e1 : F128 V0 (ix5 l s h p n) = if l.val = 0 then WT V0 (ix5 s ⟨h.val / 8, by omega⟩ ⟨h.val % 8, by omega⟩ p n) else A3 V0 (ix5 1 s h p n) := by
    rw [e0]
    pointwise
    by_cases h0 : l.val = 0
    · rw [dif_pos (by omega), if_pos h0]
    · rw [dif_neg (by omega), if_neg h0]
      exact congrArg (fun a => A3 V0 (ix5 a s h p n)) (Fin.ext (by show 1 + (l.val - 1) = 1; omega))
  rw [e1, wt_at]
  by_cases h0 : l.val = 0
  · rw [if_pos h0, if_pos h0]
    exact congrArg (fun a => (RK V0 s).st a p n) (Fin.ext (by simp only [hd]; omega))
  · rw [if_neg h0, if_neg h0]
    exact congrArg (fun a => A3 V0 (ix5 a s h p n)) (Fin.ext (by show 1 = l.val; omega))

end Cert.SsdRef

end
-- ==== Proof.SsdI.lean ====
module

public import proofs.«01_k».proof.Defs
public import proofs.«01_k».proof.Proof.Gen.KernelIdeal.Value
public import proofs.«01_k».proof.Proof.Gen.ReferenceIdeal.Run
public import Idealize.ShloMosaic.Lib.Pipeline.Value
public import Idealize.ShloMosaic.Lib.Pipeline.ValueKit
import Idealize.ShloMosaic.Lib.Pipeline.ReadBack
import Idealize.ShloMosaic.Lib.Tactic.CleanTypes
public import Idealize.ShloMosaic.Lib.Pointwise
public import Idealize.ShloMosaic.Lib.Claim
public import proofs.«01_k».proof.Proof.SsdH
public import proofs.«01_k».proof.Pre_steps_below_infinity
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.Ssd

open Cert.KernelIdeal Cert.KernelIdeal.Gen Cert.KernelIdeal.Value

variable (m : (ℓ : Loc nD τ sig) → Buf (Elt Ideal) ℓ)

/-- A step's softplus is below the top when the step is. -/
theorem sp_ne_top {x : EReal} (h : x ≠ ⊤) : sp x ≠ ⊤ := by
  have hl : ∀ y : EReal, y ≤ 0 → Ideal.log1p (Ideal.exp y) ≠ ⊤ := by
    intro y hy
    unfold Ideal.log1p
    have e : ∃ r : ℝ, 0 < r ∧ 1 + Ideal.exp y = (r : EReal) := by
      induction y with
      | bot => exact ⟨1, one_pos, by show (1 : EReal) + 0 = _; simp⟩
      | top => exact absurd hy (by simp)
      | coe r => exact ⟨1 + Real.exp r, by positivity, by show (1 : EReal) + (Real.exp r : EReal) = _; simp⟩
    obtain ⟨r, hr, e⟩ := e
    rw [e, Ideal.log_coe, if_neg (not_le.2 hr)]
    exact EReal.coe_ne_top _
  unfold sp
  refine EReal.add_ne_top (max_lt (lt_top_iff_ne_top.2 h) (by simp)).ne (hl _ ?_)
  rw [zero_sub]
  have : 0 ≤ max x (-x) := by
    rcases le_total 0 x with h0 | h0
    · exact le_max_of_le_left h0
    · refine le_max_of_le_right ?_
      have := EReal.neg_le_neg_iff.2 h0
      simpa using this
  have := EReal.neg_le_neg_iff.2 this
  simpa using this

/-- The predicate's side conditions. -/
theorem preFacts : Cert.Pre_steps_below_infinity.Facts := ⟨by decide, by decide, by decide, by decide⟩

/-- What the precondition says of a raw step. -/
theorem pre_raw [Cert.Pre_steps_below_infinity.Facts] (a0 : FVec Ideal S16896x9320 .f32) (a1 : FVec Ideal S256x9320 .f32) (a2 a3 : FVec Ideal S2x32x32x64x128 .f32) (a4 : FVec Ideal S32x3x3072 .f32)
    (a5 : FVec Ideal S4x3072 .f32) (a6 : FVec Ideal S3072 .f32) (a7 a8 a9 : FVec Ideal S32 .f32) (a10 : FVec Ideal S2048 .f32)
    (hp : Cert.Pre_steps_below_infinity.fn (F := Ideal) a0 a1 a2 a3 a4 a5 a6 a7 a8 a9 a10 = fun _ => 1#1) (r : Fin 256) (h : Fin 32) :
    a1 (ix2 r ⟨5120 + h.val, by omega⟩) + a7 (ix1 h) ≠ ⊤ := by
  have e := congrFun hp (ix2 r h)
  have ht : Ideal.ofBits .f32 0x7F800000#32 = ⊤ := by simp [Ideal.ofBits, Ideal.ieee]
  intro hx
  have e1 : Cert.Pre_steps_below_infinity.fn (F := Ideal) a0 a1 a2 a3 a4 a5 a6 a7 a8 a9 a10 (ix2 r h)
      = FloatOps.cmpf (F := Ideal) (φ := .f32) .olt (a1 (ix2 r ⟨5120 + h.val, by omega⟩) + a7 (ix1 h)) (Ideal.ofBits .f32 0x7F800000#32) := by
    unfold Cert.Pre_steps_below_infinity.fn
    pointwise
  rw [hx, ht] at e1
  have e2 : FloatOps.cmpf (F := Ideal) (φ := .f32) .olt (⊤ : EReal) (⊤ : EReal) = 0#1 := by
    simp [FloatOps.cmpf, Ideal.cmp]
  exact absurd (e.symm.trans (e1.trans e2)) (by decide)

/-- The kernel's first output array. -/
def A16 (c : Dev nD) : Vec Ideal S256x2048 .f32 := fun i => G16 m c (i 0) (i 1)

/-- The kernel's second output array. -/
def A17 (c : Dev nD) : Vec Ideal S2x32x32x64x128 .f32 := fun i => G17 m c (i 0) (i 1) (i 2) (i 3) (i 4)

/-- The call's output array is the samples' outputs, when no time step is infinite. -/
theorem final16 (c : Dev nD) (hp : ∀ (s : Fin 32) j h, (SP m c s).dt j h ≠ ⊤) : (dats m 0 c).arrAt 16 cfg0.N = A16 m c := by
  refine (dats m 0 c).arrAt_eq_of_covers 16 (A16 m c) ?_ fun t hf y => ?_
  · decide +kernel
  · blk_simp
    rw [after0_16]
    refine (congrArg (outsAt0 m c t).1 (eq_ix2 (n0 := 8) (n1 := 2048) y)).trans ((out1_apply m c t (ok_of m c t (hp _)) (y 0) (y 1)).trans ?_)
    rw [CK_eq]
    unfold A16 G16
    have hy : (y 0).val < 8 := (y 0).isLt
    refine congr (congr (congrArg Ck.out (congrArg (SP m c) (Fin.ext ?_))) (Fin.ext ?_)) (Fin.ext ?_)
    · blk_simp [(idx0 t).2.2.2.2.2.2.2.1]
      simp only []
      omega
    · blk_simp [(idx0 t).2.2.2.2.2.2.2.1]
      simp only []
      omega
    · blk_simp [(idx0 t).2.2.2.2.2.2.2.1]

/-- The states the call writes over are the argument's. -/
theorem v44_1_entry (c : Dev nD) : (V m c main_v44_1 : Vec Ideal S2x32x32x64x128 .f32) = (m (c.tc.loc main_arg3) : Vec Ideal S2x32x32x64x128 .f32) := by
  unfold V hostOps0 hostOps0_1 hostOps0_2
  simp only [List.flatten_cons, List.flatten_nil, List.cons_append, List.nil_append, List.append_nil]
  after_results
  rfl

/-- The call's state array is the samples' new states, when no time step is infinite. -/
theorem final17 (c : Dev nD) (hp : ∀ (s : Fin 32) j h, (SP m c s).dt j h ≠ ⊤) : (dats m 0 c).arrAt 17 cfg0.N = A17 m c := by
  refine (dats m 0 c).arrAt_eq_of_coversWhere_of_agree 17 (A17 m c) (fun β => β (0 : Fin 5) = 0) ?_ (fun t hf y => ?_) fun j hj => ?_
  · decide +kernel
  · blk_simp
    rw [after0_17]
    have h0 : (y 0).val < 1 := (y 0).isLt
    have h1 : (y 1).val < 1 := (y 1).isLt
    refine (congrArg (outsAt0 m c t).2 (eq_ix5 (n0 := 1) (n1 := 1) (n2 := 32) (n3 := 64) (n4 := 128) y)).trans ?_
    have e0 : y 0 = (0 : Fin 1) := Fin.ext (Nat.lt_one_iff.1 h0)
    have e1 : y 1 = (0 : Fin 1) := Fin.ext (Nat.lt_one_iff.1 h1)
    rw [e0, e1]
    refine (out2_st m c t (ok_of m c t (hp _)) (y 2) (y 3) (y 4)).trans ?_
    rw [CK_eq]
    unfold A17 G17
    rw [if_pos (by blk_simp [(idx0 t).2.2.2.2.2.2.2.2])]
    refine congr (congr (congr (congrArg Ck.st (congrArg (SP m c) (Fin.ext ?_))) (Fin.ext ?_)) (Fin.ext ?_)) (Fin.ext ?_)
    · blk_simp [(idx0 t).2.2.2.2.2.2.2.2]
    · blk_simp [(idx0 t).2.2.2.2.2.2.2.2]
    · blk_simp [(idx0 t).2.2.2.2.2.2.2.2]
    · blk_simp [(idx0 t).2.2.2.2.2.2.2.2]
  · refine (congrFun (A_eq m c 17) _).trans ((congrFun (v44_1_entry m c) _).trans ?_)
    blk_simp [Pipeline.Window.cell_apply] at hj
    unfold A17 G17
    rw [if_neg (by blk_simp; exact fun e => hj (by rw [e]))]
    exact congrArg _ (eq_ix5 (n0 := 2) (n1 := 32) (n2 := 32) (n3 := 64) (n4 := 128) _)

/-- No step of a sequence is infinite when the raw ones are not. -/
theorem steps_below [Cert.Pre_steps_below_infinity.Facts] (c : Dev nD)
    (hp : Cert.Pre_steps_below_infinity.fn (F := Ideal) (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9)) (m (c.tc.loc main_arg10)) = fun _ => 1#1)
    (s : Fin 32) (j : Fin 8) (h : Fin 32) : (SP m c s).dt j h ≠ ⊤ :=
  sp_ne_top (pre_raw (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9)) (m (c.tc.loc main_arg10)) hp (srow s j) h)

/-- The reference's first result is the specification at its arguments. -/
theorem ref_A16 (V0 : Valuation Cert.ReferenceIdeal.τ Cert.ReferenceIdeal.sig (Elt Ideal)) (c : Dev nD) (h : ∀ s, Cert.SsdRef.RK V0 s = SP m c s) : Cert.SsdRef.F125 V0 = A16 m c := by
  funext i
  refine (congrArg (Cert.SsdRef.F125 V0) (eq_ix2 (n0 := 256) (n1 := 2048) i)).trans ((Cert.SsdRef.f125_at V0 (i 0) (i 1)).trans ?_)
  rw [h]
  rfl

/-- The reference's second result likewise. -/
theorem ref_A17 (V0 : Valuation Cert.ReferenceIdeal.τ Cert.ReferenceIdeal.sig (Elt Ideal)) (c : Dev nD) (h : ∀ s, Cert.SsdRef.RK V0 s = SP m c s)
    (h3 : Cert.SsdRef.A3 V0 = m (c.tc.loc main_arg3)) : Cert.SsdRef.F128 V0 = A17 m c := by
  funext i
  refine (congrArg (Cert.SsdRef.F128 V0) (eq_ix5 (n0 := 2) (n1 := 32) (n2 := 32) (n3 := 64) (n4 := 128) i)).trans ((Cert.SsdRef.f128_at V0 (i 0) (i 1) (i 2) (i 3) (i 4)).trans ?_)
  have e1 : ∀ (l : Fin 2) (s : Fin 32) (k : Fin 32) (p : Fin 64) (n : Fin 128), (if l.val = 0 then (Cert.SsdRef.RK V0 s).st k p n else Cert.SsdRef.A3 V0 (ix5 l s k p n)) = G17 m c l s k p n := by
    intro l s k p n
    rw [h, h3]
    rfl
  exact e1 _ _ _ _ _

end Cert.Ssd

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.InProj
public import proofs.«01_k».proof.Proof.Mix
public import proofs.«01_k».proof.Proof.SsdI
public import Idealize.ShloMosaic.Adequacy
public import Idealize.ShloMosaic.Init
public import Idealize.ShloMosaic.Lib.Claim

@[expose] public section

noncomputable section

namespace Cert.Proof

open Idealize.ShloMosaic Idealize.SL.Sem

/-- The recurrence over the samples: Kernel keeps its arguments and leaves no semaphore raised. -/
theorem frame_Kernel : @quiescent_Kernel Cert.Kernel.Gen.facts :=
  fun m ρ _ => Cert.Kernel.Gen.frame m ρ

/-- The recurrence over the samples: KernelIdeal keeps its arguments and leaves no semaphore raised. -/
theorem frame_KernelIdeal : @quiescent_KernelIdeal Cert.KernelIdeal.Gen.facts :=
  fun m ρ _ => Cert.KernelIdeal.Gen.frame m ρ

/-- The recurrence over the samples: the reference keeps its arguments and leaves no semaphore raised. -/
theorem frame_ReferenceIdeal : @quiescent_ReferenceIdeal Cert.ReferenceIdeal.Gen.facts :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The input projection: Kernel2 keeps its arguments and leaves no semaphore raised. -/
theorem frame_Kernel2 : @quiescent_Kernel2 Cert.Kernel2.Gen.facts :=
  fun m ρ _ => Cert.Kernel2.Gen.frame m ρ

/-- The input projection: Kernel2Ideal keeps its arguments and leaves no semaphore raised. -/
theorem frame_Kernel2Ideal : @quiescent_Kernel2Ideal Cert.Kernel2Ideal.Gen.facts :=
  fun m ρ _ => Cert.Kernel2Ideal.Gen.frame m ρ

/-- The input projection: the reference keeps its arguments and leaves no semaphore raised. -/
theorem frame_Reference2Ideal : @quiescent_Reference2Ideal Cert.Reference2Ideal.Gen.facts :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The layer's end: Kernel3 keeps its arguments and leaves no semaphore raised. -/
theorem frame_Kernel3 : @quiescent_Kernel3 Cert.Kernel3.Gen.facts :=
  fun m ρ _ => Cert.Kernel3.Gen.frame m ρ

/-- The layer's end: Kernel3Ideal keeps its arguments and leaves no semaphore raised. -/
theorem frame_Kernel3Ideal : @quiescent_Kernel3Ideal Cert.Kernel3Ideal.Gen.facts :=
  fun m ρ _ => Cert.Kernel3Ideal.Gen.frame m ρ

/-- The layer's end: the reference keeps its arguments and leaves no semaphore raised. -/
theorem frame_Reference3Ideal : @quiescent_Reference3Ideal Cert.Reference3Ideal.Gen.facts :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The input projection: the kernel and the reference leave the same projections. -/
theorem algebraic_2 : @algebraic_Kernel2Ideal_Reference2Ideal Cert.Kernel2Ideal.Gen.facts Cert.Reference2Ideal.Gen.facts := by
  intro m ρ m' ρ' _ hagree
  refine ⟨fun c => Cert.Kernel2Ideal.Value.G3 m c, Cert.Kernel2Ideal.Value.run m ρ,
    (θ_run Cert.Reference2Ideal.defs _ _).mono (fun r h c => ⟨(h c).1.trans ?_, (h c).2⟩)
      (Cert.Reference2Ideal.Value.run (F := Ideal) m' ρ')⟩
  obtain ⟨h0, h1, h2⟩ := hagree c
  refine (Cert.InProj.ref_eq m' c).trans (Eq.trans ?_ (Cert.InProj.G_eq m c).symm)
  rw [h0, h1, h2]
  rfl

/-- The layer's end: the kernel and the reference leave the same normed rows. -/
theorem algebraic_3 : @algebraic_Kernel3Ideal_Reference3Ideal Cert.Kernel3Ideal.Gen.facts Cert.Reference3Ideal.Gen.facts := by
  intro m ρ m' ρ' _ hagree
  refine ⟨fun c => Cert.Mix.G m c,
    (θ_run Cert.Kernel3Ideal.defs _ _).mono (fun r h c => ⟨(h c).1.trans (Cert.Mix.final m c), (h c).2⟩)
      (Cert.Kernel3Ideal.Value.run_blocks m ρ),
    (θ_run Cert.Reference3Ideal.defs _ _).mono (fun r h c => ⟨(h c).1.trans ?_, (h c).2⟩)
      (Cert.Reference3Ideal.Value.run (F := Ideal) m' ρ')⟩
  obtain ⟨h0, h1, h2, h3, h4, h5, h6, h7, h8, h9, h10, h11, h12⟩ := hagree c
  refine (Cert.MixRef.ref_eq m' c).trans ?_
  unfold Cert.Mix.G
  rw [h0, h1, h2, h3, h4, h5, h6, h7, h8, h9, h10, h11, h12]
  rfl

/-- The recurrence over the samples, under the precondition: KernelIdeal keeps its arguments and leaves no semaphore raised. -/
theorem frame_KernelIdeal_pre : @quiescent_KernelIdeal_pre_steps_below_infinity Cert.KernelIdeal.Gen.facts Cert.Ssd.preFacts :=
  fun m ρ _ => frame_KernelIdeal m ρ trivial

/-- The recurrence over the samples, under the precondition: ReferenceIdeal keeps its arguments and leaves no semaphore raised. -/
theorem frame_ReferenceIdeal_pre : @quiescent_ReferenceIdeal_pre_steps_below_infinity Cert.ReferenceIdeal.Gen.facts Cert.Ssd.preFacts :=
  fun m ρ _ => frame_ReferenceIdeal m ρ trivial

/-- The recurrence over the samples: the kernel and the reference leave the same outputs and the same states. -/
theorem algebraic_1 : @algebraic_KernelIdeal_ReferenceIdeal_pre_steps_below_infinity Cert.KernelIdeal.Gen.facts Cert.ReferenceIdeal.Gen.facts Cert.Ssd.preFacts := by
  intro m ρ m' ρ' hpre hagree
  have hk : ∀ c s, Cert.SsdRef.RK (StableHlo.launchContents m' c) s = Cert.Ssd.SP m c s := by
    intro c s
    obtain ⟨h0, h1, h2, h3, h4, h5, h6, h7, h8, h9, h10⟩ := hagree c
    have e : Cert.SsdRef.RK (StableHlo.launchContents m' c) s = Cert.Ssd.spec (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) s := rfl
    rw [e, h1, h2, h4, h5, h6, h7, h8, h9, h10]
    rfl
  exact ⟨fun c => Cert.Ssd.A16 m c, fun c => Cert.Ssd.A17 m c,
    (θ_run Cert.KernelIdeal.defs _ _).mono (fun r h c => ⟨(h c).1.trans (Cert.Ssd.final16 m c (@Cert.Ssd.steps_below m Cert.Ssd.preFacts c (hpre c))),
        (h c).2.1.trans (Cert.Ssd.final17 m c (@Cert.Ssd.steps_below m Cert.Ssd.preFacts c (hpre c))), (h c).2.2⟩)
      (Cert.KernelIdeal.Value.run_blocks m ρ),
    (θ_run Cert.ReferenceIdeal.defs _ _).mono (fun r h c => ⟨(h c).1.trans (Cert.Ssd.ref_A16 m (StableHlo.launchContents m' c) c (hk c)),
        (h c).2.1.trans (Cert.Ssd.ref_A17 m (StableHlo.launchContents m' c) c (hk c) (hagree c).2.2.2.1), (h c).2.2⟩)
      (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Ssd.preFacts,
   frame_Kernel, frame_KernelIdeal, frame_KernelIdeal_pre, frame_ReferenceIdeal, frame_ReferenceIdeal_pre, frame_Kernel2, frame_Kernel2Ideal, frame_Reference2Ideal, frame_Kernel3, frame_Kernel3Ideal, frame_Reference3Ideal,
   trivial, algebraic_1, trivial, algebraic_2, trivial, algebraic_3⟩

end Cert.Proof

end
